-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk_KernelIdeal [hPre_finite_qk_KernelIdeal : Cert.Pre_finite_qk_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_qk_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_qk_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk_ReferenceIdeal [hPre_finite_qk_ReferenceIdeal : Cert.Pre_finite_qk_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_qk_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_qk_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_qk_KernelIdeal [hKernelIdeal : Cert.KernelIdeal.Facts] [hPre_finite_qk_KernelIdeal : Cert.Pre_finite_qk_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_qk_ReferenceIdeal [hReferenceIdeal : Cert.ReferenceIdeal.Facts] [hPre_finite_qk_ReferenceIdeal : Cert.Pre_finite_qk_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_qk_KernelIdeal [hKernelIdeal : Cert.KernelIdeal.Facts] [hReferenceIdeal : Cert.ReferenceIdeal.Facts] [hPre_finite_qk_KernelIdeal : Cert.Pre_finite_qk_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![1, 4096, 8, 128]⟩ ⟨4, ![1, 4096, 64, 128]⟩ 2 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![1, 4096, 8, 128]⟩ ⟨4, ![1, 4096, 64, 128]⟩ 2 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v44) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_qk_KernelIdeal : Cert.Pre_finite_qk_KernelIdeal.Facts) (hPre_finite_qk_ReferenceIdeal : Cert.Pre_finite_qk_ReferenceIdeal.Facts),
    quiescent_Kernel (hKernel := hKernel)
    ∧ quiescent_KernelIdeal (hKernelIdeal := hKernelIdeal)
    ∧ quiescent_KernelIdeal_pre_finite_qk_KernelIdeal (hKernelIdeal := hKernelIdeal) (hPre_finite_qk_KernelIdeal := hPre_finite_qk_KernelIdeal)
    ∧ quiescent_ReferenceIdeal (hReferenceIdeal := hReferenceIdeal)
    ∧ quiescent_ReferenceIdeal_pre_finite_qk_ReferenceIdeal (hReferenceIdeal := hReferenceIdeal) (hPre_finite_qk_ReferenceIdeal := hPre_finite_qk_ReferenceIdeal)
    ∧ preserves_Kernel_KernelIdeal
    ∧ algebraic_KernelIdeal_ReferenceIdeal_pre_finite_qk_KernelIdeal (hKernelIdeal := hKernelIdeal) (hReferenceIdeal := hReferenceIdeal) (hPre_finite_qk_KernelIdeal := hPre_finite_qk_KernelIdeal)
-- ==== Pre_finite_qk_KernelIdeal.lean ====
abbrev S1x256x1024 : Shape := ⟨3, ![1, 256, 1024]⟩
abbrev S1024x8192 : Shape := ⟨2, ![1024, 8192]⟩
abbrev S1x4096x8x128 : Shape := ⟨4, ![1, 4096, 8, 128]⟩
abbrev S8192x1024 : Shape := ⟨2, ![8192, 1024]⟩
abbrev S_ : Shape := ⟨0, ![]⟩

class Facts : Prop where
  bcast_S_S1x256x1024 : S_.BroadcastsInDim S1x256x1024 (![] : Fin 0 → Fin S1x256x1024.rank)
  bcast_S_S1024x8192 : S_.BroadcastsInDim S1024x8192 (![] : Fin 0 → Fin S1024x8192.rank)
  bcast_S_S1x4096x8x128 : S_.BroadcastsInDim S1x4096x8x128 (![] : Fin 0 → Fin S1x4096x8x128.rank)

variable [Facts]

def fn {F : FTy → Type} [FloatOps F] (main_arg0 : FVec F S1x256x1024 .f32) (main_arg1 : FVec F S1024x8192 .f32) (main_arg2 : FVec F S1x4096x8x128 .f32) (main_arg3 : FVec F S1x4096x8x128 .f32) (main_arg4 : FVec F S8192x1024 .f32) : IVec S1x256x1024 1 × IVec S1024x8192 1 × IVec S1x4096x8x128 1 :=
  let main_v0 : FVec F S1x256x1024 .f32 := Host.absf main_arg0
  let main_cst : FVec F S_ .f32 := constant S_ .f32 0x7F800000#32
  let main_v1 : FVec F S1x256x1024 .f32 := broadcastInDim S1x256x1024 ![] bcast_S_S1x256x1024 main_cst
  let main_v2 : IVec S1x256x1024 1 := cmpf .olt main_v0 main_v1
  let main_v3 : FVec F S1024x8192 .f32 := Host.absf main_arg1
  let main_cst_0 : FVec F S_ .f32 := constant S_ .f32 0x7F800000#32
  let main_v4 : FVec F S1024x8192 .f32 := broadcastInDim S1024x8192 ![] bcast_S_S1024x8192 main_cst_0
  let main_v5 : IVec S1024x8192 1 := cmpf .olt main_v3 main_v4
  let main_v6 : FVec F S1x4096x8x128 .f32 := Host.absf main_arg2
  let main_cst_1 : FVec F S_ .f32 := constant S_ .f32 0x7F800000#32
  let main_v7 : FVec F S1x4096x8x128 .f32 := broadcastInDim S1x4096x8x128 ![] bcast_S_S1x4096x8x128 main_cst_1
  let main_v8 : IVec S1x4096x8x128 1 := cmpf .olt main_v6 main_v7
  (main_v2, main_v5, main_v8)
-- ==== Pre_finite_qk_ReferenceIdeal.lean ====
abbrev S1x256x1024 : Shape := ⟨3, ![1, 256, 1024]⟩
abbrev S1024x8192 : Shape := ⟨2, ![1024, 8192]⟩
abbrev S1x4096x64x128 : Shape := ⟨4, ![1, 4096, 64, 128]⟩
abbrev S8192x1024 : Shape := ⟨2, ![8192, 1024]⟩
abbrev S_ : Shape := ⟨0, ![]⟩

class Facts : Prop where
  bcast_S_S1x256x1024 : S_.BroadcastsInDim S1x256x1024 (![] : Fin 0 → Fin S1x256x1024.rank)
  bcast_S_S1024x8192 : S_.BroadcastsInDim S1024x8192 (![] : Fin 0 → Fin S1024x8192.rank)
  bcast_S_S1x4096x64x128 : S_.BroadcastsInDim S1x4096x64x128 (![] : Fin 0 → Fin S1x4096x64x128.rank)

variable [Facts]

def fn {F : FTy → Type} [FloatOps F] (main_arg0 : FVec F S1x256x1024 .f32) (main_arg1 : FVec F S1024x8192 .f32) (main_arg2 : FVec F S1x4096x64x128 .f32) (main_arg3 : FVec F S1x4096x64x128 .f32) (main_arg4 : FVec F S8192x1024 .f32) : IVec S1x256x1024 1 × IVec S1024x8192 1 × IVec S1x4096x64x128 1 :=
  let main_v0 : FVec F S1x256x1024 .f32 := Host.absf main_arg0
  let main_cst : FVec F S_ .f32 := constant S_ .f32 0x7F800000#32
  let main_v1 : FVec F S1x256x1024 .f32 := broadcastInDim S1x256x1024 ![] bcast_S_S1x256x1024 main_cst
  let main_v2 : IVec S1x256x1024 1 := cmpf .olt main_v0 main_v1
  let main_v3 : FVec F S1024x8192 .f32 := Host.absf main_arg1
  let main_cst_0 : FVec F S_ .f32 := constant S_ .f32 0x7F800000#32
  let main_v4 : FVec F S1024x8192 .f32 := broadcastInDim S1024x8192 ![] bcast_S_S1024x8192 main_cst_0
  let main_v5 : IVec S1024x8192 1 := cmpf .olt main_v3 main_v4
  let main_v6 : FVec F S1x4096x64x128 .f32 := Host.absf main_arg2
  let main_cst_1 : FVec F S_ .f32 := constant S_ .f32 0x7F800000#32
  let main_v7 : FVec F S1x4096x64x128 .f32 := broadcastInDim S1x4096x64x128 ![] bcast_S_S1x4096x64x128 main_cst_1
  let main_v8 : IVec S1x4096x64x128 1 := cmpf .olt main_v6 main_v7
  (main_v2, main_v5, main_v8)
-- ==== Kernel.lean ====
abbrev S1x256x1024 : Shape := ⟨3, ![1, 256, 1024]⟩
abbrev S1024x8192 : Shape := ⟨2, ![1024, 8192]⟩
abbrev S1x4096x8x128 : Shape := ⟨4, ![1, 4096, 8, 128]⟩
abbrev S8192x1024 : Shape := ⟨2, ![8192, 1024]⟩
abbrev S1024x1024 : Shape := ⟨2, ![1024, 1024]⟩
abbrev S8x4096x128 : Shape := ⟨3, ![8, 4096, 128]⟩
abbrev S256x1024 : Shape := ⟨2, ![256, 1024]⟩
abbrev S7x32x1024 : Shape := ⟨3, ![7, 32, 1024]⟩
abbrev S_ : Shape := ⟨0, ![]⟩
abbrev S8 : Shape := ⟨1, ![8]⟩
abbrev S7 : Shape := ⟨1, ![7]⟩
abbrev S1 : Shape := ⟨1, ![1]⟩
abbrev S1x4096x128 : Shape := ⟨3, ![1, 4096, 128]⟩
abbrev S4096x128 : Shape := ⟨2, ![4096, 128]⟩
abbrev S1x4096x1x128 : Shape := ⟨4, ![1, 4096, 1, 128]⟩
abbrev S256x4096 : Shape := ⟨2, ![256, 4096]⟩
abbrev S256x128 : Shape := ⟨2, ![256, 128]⟩
abbrev S256 : Shape := ⟨1, ![256]⟩
abbrev S256x1 : Shape := ⟨2, ![256, 1]⟩
abbrev S128x1024 : Shape := ⟨2, ![128, 1024]⟩
abbrev S1x32x1024 : Shape := ⟨3, ![1, 32, 1024]⟩
abbrev S32x1024 : Shape := ⟨2, ![32, 1024]⟩

abbrev nBuf : Space → Nat
  | .hbm => 6
  | .vmem => 8
  | .smem => 0
  | _ => 0

abbrev bufTy : (tb : Table) → Fin (tcTables nBuf tb) → BufTy
  | .hbm, ⟨0, _⟩ => ⟨S1x256x1024, .f32⟩
  | .hbm, ⟨1, _⟩ => ⟨S1024x8192, .f32⟩
  | .hbm, ⟨2, _⟩ => ⟨S1x4096x8x128, .f32⟩
  | .hbm, ⟨3, _⟩ => ⟨S1x4096x8x128, .f32⟩
  | .hbm, ⟨4, _⟩ => ⟨S8192x1024, .f32⟩
  | .hbm, ⟨5, _⟩ => ⟨S1x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S1024x1024, .f32⟩
  | .local _ .vmem, ⟨3, _⟩ => ⟨S1024x1024, .f32⟩
  | .local _ .vmem, ⟨4, _⟩ => ⟨S8x4096x128, .f32⟩
  | .local _ .vmem, ⟨5, _⟩ => ⟨S8x4096x128, .f32⟩
  | .local _ .vmem, ⟨6, _⟩ => ⟨S256x1024, .bf16⟩
  | .local _ .vmem, ⟨7, _⟩ => ⟨S7x32x1024, .bf16⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  (ofTc nBuf bufTy 1 48 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_off1 (d0 : Dev nD) : Fin 2 → Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1024_i32 : BitVec 32 := 1024#32
  let v41 : BitVec 32 := Scalar.muli v2 c1024_i32
  ![0, v41.toNat]
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1024_i32_24 : BitVec 32 := 1024#32
  let v42 : BitVec 32 := Scalar.muli v2 c1024_i32_24
  let c0_i32_25 : BitVec 32 := 0#32
  ![v42.toNat, 0]
def k0_dev1 (d0 : Dev nD) : Nat :=
  let c0_i32_156 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_2 : BitVec 32 := 1#32
  let v6 : BitVec 32 := Scalar.xori v5 c1_i32_2
  let c1_i32_3 : BitVec 32 := 1#32
  let v7 : BitVec 32 := Scalar.xori v5 c1_i32_3
  let c1_i32_4 : BitVec 32 := 1#32
  let v8 : BitVec 32 := Scalar.shrsi v7 c1_i32_4
  let c1_i32_5 : BitVec 32 := 1#32
  let v9 : BitVec 32 := Scalar.andi v8 c1_i32_5
  let v10 : BitVec 32 := Scalar.xori v6 v9
  let c1_i32_155 : BitVec 32 := 1#32
  let v142 : BitVec 32 := Scalar.muli v10 c1_i32_155
  let v143 : BitVec 32 := Scalar.addi c0_i32_156 v142
  v143.toNat
def k0_dev2 (d0 : Dev nD) : Nat :=
  let c0_i32_159 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32 : BitVec 32 := 2#32
  let v11 : BitVec 32 := Scalar.xori v5 c2_i32
  let c2_i32_6 : BitVec 32 := 2#32
  let v12 : BitVec 32 := Scalar.xori v5 c2_i32_6
  let c1_i32_7 : BitVec 32 := 1#32
  let v13 : BitVec 32 := Scalar.shrsi v12 c1_i32_7
  let c1_i32_8 : BitVec 32 := 1#32
  let v14 : BitVec 32 := Scalar.andi v13 c1_i32_8
  let v15 : BitVec 32 := Scalar.xori v11 v14
  let c1_i32_158 : BitVec 32 := 1#32
  let v144 : BitVec 32 := Scalar.muli v15 c1_i32_158
  let v145 : BitVec 32 := Scalar.addi c0_i32_159 v144
  v145.toNat
def k0_dev3 (d0 : Dev nD) : Nat :=
  let c0_i32_162 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c3_i32 : BitVec 32 := 3#32
  let v16 : BitVec 32 := Scalar.xori v5 c3_i32
  let c3_i32_9 : BitVec 32 := 3#32
  let v17 : BitVec 32 := Scalar.xori v5 c3_i32_9
  let c1_i32_10 : BitVec 32 := 1#32
  let v18 : BitVec 32 := Scalar.shrsi v17 c1_i32_10
  let c1_i32_11 : BitVec 32 := 1#32
  let v19 : BitVec 32 := Scalar.andi v18 c1_i32_11
  let v20 : BitVec 32 := Scalar.xori v16 v19
  let c1_i32_161 : BitVec 32 := 1#32
  let v146 : BitVec 32 := Scalar.muli v20 c1_i32_161
  let v147 : BitVec 32 := Scalar.addi c0_i32_162 v146
  v147.toNat
def k0_dev4 (d0 : Dev nD) : Nat :=
  let c0_i32_165 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32 : BitVec 32 := 4#32
  let v21 : BitVec 32 := Scalar.xori v5 c4_i32
  let c4_i32_12 : BitVec 32 := 4#32
  let v22 : BitVec 32 := Scalar.xori v5 c4_i32_12
  let c1_i32_13 : BitVec 32 := 1#32
  let v23 : BitVec 32 := Scalar.shrsi v22 c1_i32_13
  let c1_i32_14 : BitVec 32 := 1#32
  let v24 : BitVec 32 := Scalar.andi v23 c1_i32_14
  let v25 : BitVec 32 := Scalar.xori v21 v24
  let c1_i32_164 : BitVec 32 := 1#32
  let v148 : BitVec 32 := Scalar.muli v25 c1_i32_164
  let v149 : BitVec 32 := Scalar.addi c0_i32_165 v148
  v149.toNat
def k0_dev5 (d0 : Dev nD) : Nat :=
  let c0_i32_168 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c5_i32 : BitVec 32 := 5#32
  let v26 : BitVec 32 := Scalar.xori v5 c5_i32
  let c5_i32_15 : BitVec 32 := 5#32
  let v27 : BitVec 32 := Scalar.xori v5 c5_i32_15
  let c1_i32_16 : BitVec 32 := 1#32
  let v28 : BitVec 32 := Scalar.shrsi v27 c1_i32_16
  let c1_i32_17 : BitVec 32 := 1#32
  let v29 : BitVec 32 := Scalar.andi v28 c1_i32_17
  let v30 : BitVec 32 := Scalar.xori v26 v29
  let c1_i32_167 : BitVec 32 := 1#32
  let v150 : BitVec 32 := Scalar.muli v30 c1_i32_167
  let v151 : BitVec 32 := Scalar.addi c0_i32_168 v150
  v151.toNat
def k0_dev6 (d0 : Dev nD) : Nat :=
  let c0_i32_171 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c6_i32 : BitVec 32 := 6#32
  let v31 : BitVec 32 := Scalar.xori v5 c6_i32
  let c6_i32_18 : BitVec 32 := 6#32
  let v32 : BitVec 32 := Scalar.xori v5 c6_i32_18
  let c1_i32_19 : BitVec 32 := 1#32
  let v33 : BitVec 32 := Scalar.shrsi v32 c1_i32_19
  let c1_i32_20 : BitVec 32 := 1#32
  let v34 : BitVec 32 := Scalar.andi v33 c1_i32_20
  let v35 : BitVec 32 := Scalar.xori v31 v34
  let c1_i32_170 : BitVec 32 := 1#32
  let v152 : BitVec 32 := Scalar.muli v35 c1_i32_170
  let v153 : BitVec 32 := Scalar.addi c0_i32_171 v152
  v153.toNat
def k0_dev7 (d0 : Dev nD) : Nat :=
  let c0_i32_174 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c7_i32 : BitVec 32 := 7#32
  let v36 : BitVec 32 := Scalar.xori v5 c7_i32
  let c7_i32_21 : BitVec 32 := 7#32
  let v37 : BitVec 32 := Scalar.xori v5 c7_i32_21
  let c1_i32_22 : BitVec 32 := 1#32
  let v38 : BitVec 32 := Scalar.shrsi v37 c1_i32_22
  let c1_i32_23 : BitVec 32 := 1#32
  let v39 : BitVec 32 := Scalar.andi v38 c1_i32_23
  let v40 : BitVec 32 := Scalar.xori v36 v39
  let c1_i32_173 : BitVec 32 := 1#32
  let v154 : BitVec 32 := Scalar.muli v40 c1_i32_173
  let v155 : BitVec 32 := Scalar.addi c0_i32_174 v154
  v155.toNat
def k0_off3 (d0 : Dev nD) (c1_i32_425 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let v491 : BitVec 32 := Scalar.xori v5 c1_i32_425
  let c32_i32 : BitVec 32 := 32#32
  let v492 : BitVec 32 := Scalar.muli v491 c32_i32
  let c0_i32_433 : BitVec 32 := 0#32
  ![v492.toNat, 0]
def k0_dev8 (d0 : Dev nD) : Nat :=
  let c0_i32_430 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_2 : BitVec 32 := 1#32
  let v6 : BitVec 32 := Scalar.xori v5 c1_i32_2
  let c1_i32_3 : BitVec 32 := 1#32
  let v7 : BitVec 32 := Scalar.xori v5 c1_i32_3
  let c1_i32_4 : BitVec 32 := 1#32
  let v8 : BitVec 32 := Scalar.shrsi v7 c1_i32_4
  let c1_i32_5 : BitVec 32 := 1#32
  let v9 : BitVec 32 := Scalar.andi v8 c1_i32_5
  let v10 : BitVec 32 := Scalar.xori v6 v9
  let c1_i32_429 : BitVec 32 := 1#32
  let v493 : BitVec 32 := Scalar.muli v10 c1_i32_429
  let v494 : BitVec 32 := Scalar.addi c0_i32_430 v493
  v494.toNat
def k0_dev9 (d0 : Dev nD) : Nat :=
  let c0_i32_440 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32 : BitVec 32 := 2#32
  let v11 : BitVec 32 := Scalar.xori v5 c2_i32
  let c2_i32_6 : BitVec 32 := 2#32
  let v12 : BitVec 32 := Scalar.xori v5 c2_i32_6
  let c1_i32_7 : BitVec 32 := 1#32
  let v13 : BitVec 32 := Scalar.shrsi v12 c1_i32_7
  let c1_i32_8 : BitVec 32 := 1#32
  let v14 : BitVec 32 := Scalar.andi v13 c1_i32_8
  let v15 : BitVec 32 := Scalar.xori v11 v14
  let c1_i32_439 : BitVec 32 := 1#32
  let v504 : BitVec 32 := Scalar.muli v15 c1_i32_439
  let v505 : BitVec 32 := Scalar.addi c0_i32_440 v504
  v505.toNat
def k0_dev10 (d0 : Dev nD) : Nat :=
  let c0_i32_450 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c3_i32 : BitVec 32 := 3#32
  let v16 : BitVec 32 := Scalar.xori v5 c3_i32
  let c3_i32_9 : BitVec 32 := 3#32
  let v17 : BitVec 32 := Scalar.xori v5 c3_i32_9
  let c1_i32_10 : BitVec 32 := 1#32
  let v18 : BitVec 32 := Scalar.shrsi v17 c1_i32_10
  let c1_i32_11 : BitVec 32 := 1#32
  let v19 : BitVec 32 := Scalar.andi v18 c1_i32_11
  let v20 : BitVec 32 := Scalar.xori v16 v19
  let c1_i32_449 : BitVec 32 := 1#32
  let v515 : BitVec 32 := Scalar.muli v20 c1_i32_449
  let v516 : BitVec 32 := Scalar.addi c0_i32_450 v515
  v516.toNat
def k0_dev11 (d0 : Dev nD) : Nat :=
  let c0_i32_460 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32 : BitVec 32 := 4#32
  let v21 : BitVec 32 := Scalar.xori v5 c4_i32
  let c4_i32_12 : BitVec 32 := 4#32
  let v22 : BitVec 32 := Scalar.xori v5 c4_i32_12
  let c1_i32_13 : BitVec 32 := 1#32
  let v23 : BitVec 32 := Scalar.shrsi v22 c1_i32_13
  let c1_i32_14 : BitVec 32 := 1#32
  let v24 : BitVec 32 := Scalar.andi v23 c1_i32_14
  let v25 : BitVec 32 := Scalar.xori v21 v24
  let c1_i32_459 : BitVec 32 := 1#32
  let v526 : BitVec 32 := Scalar.muli v25 c1_i32_459
  let v527 : BitVec 32 := Scalar.addi c0_i32_460 v526
  v527.toNat
def k0_dev12 (d0 : Dev nD) : Nat :=
  let c0_i32_470 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c5_i32 : BitVec 32 := 5#32
  let v26 : BitVec 32 := Scalar.xori v5 c5_i32
  let c5_i32_15 : BitVec 32 := 5#32
  let v27 : BitVec 32 := Scalar.xori v5 c5_i32_15
  let c1_i32_16 : BitVec 32 := 1#32
  let v28 : BitVec 32 := Scalar.shrsi v27 c1_i32_16
  let c1_i32_17 : BitVec 32 := 1#32
  let v29 : BitVec 32 := Scalar.andi v28 c1_i32_17
  let v30 : BitVec 32 := Scalar.xori v26 v29
  let c1_i32_469 : BitVec 32 := 1#32
  let v537 : BitVec 32 := Scalar.muli v30 c1_i32_469
  let v538 : BitVec 32 := Scalar.addi c0_i32_470 v537
  v538.toNat
def k0_dev13 (d0 : Dev nD) : Nat :=
  let c0_i32_480 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c6_i32 : BitVec 32 := 6#32
  let v31 : BitVec 32 := Scalar.xori v5 c6_i32
  let c6_i32_18 : BitVec 32 := 6#32
  let v32 : BitVec 32 := Scalar.xori v5 c6_i32_18
  let c1_i32_19 : BitVec 32 := 1#32
  let v33 : BitVec 32 := Scalar.shrsi v32 c1_i32_19
  let c1_i32_20 : BitVec 32 := 1#32
  let v34 : BitVec 32 := Scalar.andi v33 c1_i32_20
  let v35 : BitVec 32 := Scalar.xori v31 v34
  let c1_i32_479 : BitVec 32 := 1#32
  let v548 : BitVec 32 := Scalar.muli v35 c1_i32_479
  let v549 : BitVec 32 := Scalar.addi c0_i32_480 v548
  v549.toNat
def k0_dev14 (d0 : Dev nD) : Nat :=
  let c0_i32_490 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c7_i32 : BitVec 32 := 7#32
  let v36 : BitVec 32 := Scalar.xori v5 c7_i32
  let c7_i32_21 : BitVec 32 := 7#32
  let v37 : BitVec 32 := Scalar.xori v5 c7_i32_21
  let c1_i32_22 : BitVec 32 := 1#32
  let v38 : BitVec 32 := Scalar.shrsi v37 c1_i32_22
  let c1_i32_23 : BitVec 32 := 1#32
  let v39 : BitVec 32 := Scalar.andi v38 c1_i32_23
  let v40 : BitVec 32 := Scalar.xori v36 v39
  let c1_i32_489 : BitVec 32 := 1#32
  let v559 : BitVec 32 := Scalar.muli v40 c1_i32_489
  let v560 : BitVec 32 := Scalar.addi c0_i32_490 v559
  v560.toNat
def k0_off4 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c32_i32_494 : BitVec 32 := 32#32
  let v568 : BitVec 32 := Scalar.muli v5 c32_i32_494
  let v569 : Index := Scalar.indexCast v568
  let c0_495 : Index := 0#32
  ![v569.toNat, 0]
def k0_off5 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c32_i32_625 : BitVec 32 := 32#32
  let v691 : BitVec 32 := Scalar.muli v5 c32_i32_625
  let c0_i32_630 : BitVec 32 := 0#32
  ![v691.toNat, 0]
def k0_dev15 (d0 : Dev nD) : Nat :=
  let c0_i32_629 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_2 : BitVec 32 := 1#32
  let v6 : BitVec 32 := Scalar.xori v5 c1_i32_2
  let c1_i32_3 : BitVec 32 := 1#32
  let v7 : BitVec 32 := Scalar.xori v5 c1_i32_3
  let c1_i32_4 : BitVec 32 := 1#32
  let v8 : BitVec 32 := Scalar.shrsi v7 c1_i32_4
  let c1_i32_5 : BitVec 32 := 1#32
  let v9 : BitVec 32 := Scalar.andi v8 c1_i32_5
  let v10 : BitVec 32 := Scalar.xori v6 v9
  let c1_i32_628 : BitVec 32 := 1#32
  let v692 : BitVec 32 := Scalar.muli v10 c1_i32_628
  let v693 : BitVec 32 := Scalar.addi c0_i32_629 v692
  v693.toNat
def k0_dev16 (d0 : Dev nD) : Nat :=
  let c0_i32_637 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32 : BitVec 32 := 2#32
  let v11 : BitVec 32 := Scalar.xori v5 c2_i32
  let c2_i32_6 : BitVec 32 := 2#32
  let v12 : BitVec 32 := Scalar.xori v5 c2_i32_6
  let c1_i32_7 : BitVec 32 := 1#32
  let v13 : BitVec 32 := Scalar.shrsi v12 c1_i32_7
  let c1_i32_8 : BitVec 32 := 1#32
  let v14 : BitVec 32 := Scalar.andi v13 c1_i32_8
  let v15 : BitVec 32 := Scalar.xori v11 v14
  let c1_i32_636 : BitVec 32 := 1#32
  let v702 : BitVec 32 := Scalar.muli v15 c1_i32_636
  let v703 : BitVec 32 := Scalar.addi c0_i32_637 v702
  v703.toNat
def k0_dev17 (d0 : Dev nD) : Nat :=
  let c0_i32_645 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c3_i32 : BitVec 32 := 3#32
  let v16 : BitVec 32 := Scalar.xori v5 c3_i32
  let c3_i32_9 : BitVec 32 := 3#32
  let v17 : BitVec 32 := Scalar.xori v5 c3_i32_9
  let c1_i32_10 : BitVec 32 := 1#32
  let v18 : BitVec 32 := Scalar.shrsi v17 c1_i32_10
  let c1_i32_11 : BitVec 32 := 1#32
  let v19 : BitVec 32 := Scalar.andi v18 c1_i32_11
  let v20 : BitVec 32 := Scalar.xori v16 v19
  let c1_i32_644 : BitVec 32 := 1#32
  let v712 : BitVec 32 := Scalar.muli v20 c1_i32_644
  let v713 : BitVec 32 := Scalar.addi c0_i32_645 v712
  v713.toNat
def k0_dev18 (d0 : Dev nD) : Nat :=
  let c0_i32_653 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32 : BitVec 32 := 4#32
  let v21 : BitVec 32 := Scalar.xori v5 c4_i32
  let c4_i32_12 : BitVec 32 := 4#32
  let v22 : BitVec 32 := Scalar.xori v5 c4_i32_12
  let c1_i32_13 : BitVec 32 := 1#32
  let v23 : BitVec 32 := Scalar.shrsi v22 c1_i32_13
  let c1_i32_14 : BitVec 32 := 1#32
  let v24 : BitVec 32 := Scalar.andi v23 c1_i32_14
  let v25 : BitVec 32 := Scalar.xori v21 v24
  let c1_i32_652 : BitVec 32 := 1#32
  let v722 : BitVec 32 := Scalar.muli v25 c1_i32_652
  let v723 : BitVec 32 := Scalar.addi c0_i32_653 v722
  v723.toNat
def k0_dev19 (d0 : Dev nD) : Nat :=
  let c0_i32_661 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c5_i32 : BitVec 32 := 5#32
  let v26 : BitVec 32 := Scalar.xori v5 c5_i32
  let c5_i32_15 : BitVec 32 := 5#32
  let v27 : BitVec 32 := Scalar.xori v5 c5_i32_15
  let c1_i32_16 : BitVec 32 := 1#32
  let v28 : BitVec 32 := Scalar.shrsi v27 c1_i32_16
  let c1_i32_17 : BitVec 32 := 1#32
  let v29 : BitVec 32 := Scalar.andi v28 c1_i32_17
  let v30 : BitVec 32 := Scalar.xori v26 v29
  let c1_i32_660 : BitVec 32 := 1#32
  let v732 : BitVec 32 := Scalar.muli v30 c1_i32_660
  let v733 : BitVec 32 := Scalar.addi c0_i32_661 v732
  v733.toNat
def k0_dev20 (d0 : Dev nD) : Nat :=
  let c0_i32_669 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c6_i32 : BitVec 32 := 6#32
  let v31 : BitVec 32 := Scalar.xori v5 c6_i32
  let c6_i32_18 : BitVec 32 := 6#32
  let v32 : BitVec 32 := Scalar.xori v5 c6_i32_18
  let c1_i32_19 : BitVec 32 := 1#32
  let v33 : BitVec 32 := Scalar.shrsi v32 c1_i32_19
  let c1_i32_20 : BitVec 32 := 1#32
  let v34 : BitVec 32 := Scalar.andi v33 c1_i32_20
  let v35 : BitVec 32 := Scalar.xori v31 v34
  let c1_i32_668 : BitVec 32 := 1#32
  let v742 : BitVec 32 := Scalar.muli v35 c1_i32_668
  let v743 : BitVec 32 := Scalar.addi c0_i32_669 v742
  v743.toNat
def k0_dev21 (d0 : Dev nD) : Nat :=
  let c0_i32_677 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c7_i32 : BitVec 32 := 7#32
  let v36 : BitVec 32 := Scalar.xori v5 c7_i32
  let c7_i32_21 : BitVec 32 := 7#32
  let v37 : BitVec 32 := Scalar.xori v5 c7_i32_21
  let c1_i32_22 : BitVec 32 := 1#32
  let v38 : BitVec 32 := Scalar.shrsi v37 c1_i32_22
  let c1_i32_23 : BitVec 32 := 1#32
  let v39 : BitVec 32 := Scalar.andi v38 c1_i32_23
  let v40 : BitVec 32 := Scalar.xori v36 v39
  let c1_i32_676 : BitVec 32 := 1#32
  let v752 : BitVec 32 := Scalar.muli v40 c1_i32_676
  let v753 : BitVec 32 := Scalar.addi c0_i32_677 v752
  v753.toNat
abbrev stage0_0 : Fin 1 → Memref sig .tc .vmem S1x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S1x256x1024 : Shape := ⟨3, ![1, 256, 1024]⟩
abbrev S1024x8192 : Shape := ⟨2, ![1024, 8192]⟩
abbrev S1x4096x64x128 : Shape := ⟨4, ![1, 4096, 64, 128]⟩
abbrev S8192x1024 : Shape := ⟨2, ![8192, 1024]⟩
abbrev S1x256x8192 : Shape := ⟨3, ![1, 256, 8192]⟩
abbrev S1x256x64x128 : Shape := ⟨4, ![1, 256, 64, 128]⟩
abbrev S256 : Shape := ⟨1, ![256]⟩
abbrev S_ : Shape := ⟨0, ![]⟩
abbrev S256x1 : Shape := ⟨2, ![256, 1]⟩
abbrev S4096 : Shape := ⟨1, ![4096]⟩
abbrev S1x4096 : Shape := ⟨2, ![1, 4096]⟩
abbrev S256x4096 : Shape := ⟨2, ![256, 4096]⟩
abbrev S1x64x256x4096 : Shape := ⟨4, ![1, 64, 256, 4096]⟩
abbrev S1x1x256x4096 : Shape := ⟨4, ![1, 1, 256, 4096]⟩
abbrev S1x64x256 : Shape := ⟨3, ![1, 64, 256]⟩
abbrev S1x64x256x1 : Shape := ⟨4, ![1, 64, 256, 1]⟩
abbrev S1x1x256x1 : Shape := ⟨4, ![1, 1, 256, 1]⟩
abbrev S1x64x128x256 : Shape := ⟨4, ![1, 64, 128, 256]⟩

abbrev nBuf : Space → Nat
  | .hbm => 123
  | .vmem => 0
  | .smem => 0
  | _ => 0

abbrev bufTy : (tb : Table) → Fin (tcTables nBuf tb) → BufTy
  | .hbm, ⟨0, _⟩ => ⟨S1x256x1024, .f32⟩
  | .hbm, ⟨1, _⟩ => ⟨S1024x8192, .f32⟩
  | .hbm, ⟨2, _⟩ => ⟨S1x4096x64x128, .f32⟩
  | .hbm, ⟨3, _⟩ => ⟨S1x4096x64x128, .f32⟩
  | .hbm, ⟨4, _⟩ => ⟨S8192x1024, .f32⟩
  | .hbm, ⟨5, _⟩ => ⟨S1x256x8192, .f32⟩
  | .hbm, ⟨6, _⟩ => ⟨S1x256x64x128, .f32⟩
  | .hbm, ⟨7, _⟩ => ⟨S256, .i32⟩
  | .hbm, ⟨8, _⟩ => ⟨S_, .i32⟩
  | .hbm, ⟨9, _⟩ => ⟨S_, .i32⟩
  | .hbm, ⟨10, _⟩ => ⟨S256, .i32⟩
  | .hbm, ⟨11, _⟩ => ⟨S256, .i32⟩
  | .hbm, ⟨12, _⟩ => ⟨S256, .i32⟩
  | .hbm, ⟨13, _⟩ => ⟨S_, .i32⟩
  | .hbm, ⟨14, _⟩ => ⟨S256, .i32⟩
  | .hbm, ⟨15, _⟩ => ⟨S256, .i1⟩
  | .hbm, ⟨16, _⟩ => ⟨S256, .i32⟩
  | .hbm, ⟨17, _⟩ => ⟨S256, .i32⟩
  | .hbm, ⟨18, _⟩ => ⟨S_, .i32⟩
  | .hbm, ⟨19, _⟩ => ⟨S256, .i32⟩
  | .hbm, ⟨20, _⟩ => ⟨S256, .i1⟩
  | .hbm, ⟨21, _⟩ => ⟨S256, .i1⟩
  | .hbm, ⟨22, _⟩ => ⟨S_, .i32⟩
  | .hbm, ⟨23, _⟩ => ⟨S256, .i32⟩
  | .hbm, ⟨24, _⟩ => ⟨S256, .i32⟩
  | .hbm, ⟨25, _⟩ => ⟨S256, .i32⟩
  | .hbm, ⟨26, _⟩ => ⟨S256x1, .i32⟩
  | .hbm, ⟨27, _⟩ => ⟨S4096, .i32⟩
  | .hbm, ⟨28, _⟩ => ⟨S_, .i32⟩
  | .hbm, ⟨29, _⟩ => ⟨S_, .i32⟩
  | .hbm, ⟨30, _⟩ => ⟨S4096, .i32⟩
  | .hbm, ⟨31, _⟩ => ⟨S4096, .i32⟩
  | .hbm, ⟨32, _⟩ => ⟨S4096, .i32⟩
  | .hbm, ⟨33, _⟩ => ⟨S_, .i32⟩
  | .hbm, ⟨34, _⟩ => ⟨S4096, .i32⟩
  | .hbm, ⟨35, _⟩ => ⟨S4096, .i1⟩
  | .hbm, ⟨36, _⟩ => ⟨S4096, .i32⟩
  | .hbm, ⟨37, _⟩ => ⟨S4096, .i32⟩
  | .hbm, ⟨38, _⟩ => ⟨S_, .i32⟩
  | .hbm, ⟨39, _⟩ => ⟨S4096, .i32⟩
  | .hbm, ⟨40, _⟩ => ⟨S4096, .i1⟩
  | .hbm, ⟨41, _⟩ => ⟨S4096, .i1⟩
  | .hbm, ⟨42, _⟩ => ⟨S_, .i32⟩
  | .hbm, ⟨43, _⟩ => ⟨S4096, .i32⟩
  | .hbm, ⟨44, _⟩ => ⟨S4096, .i32⟩
  | .hbm, ⟨45, _⟩ => ⟨S4096, .i32⟩
  | .hbm, ⟨46, _⟩ => ⟨S1x4096, .i32⟩
  | .hbm, ⟨47, _⟩ => ⟨S256x4096, .i32⟩
  | .hbm, ⟨48, _⟩ => ⟨S256x4096, .i32⟩
  | .hbm, ⟨49, _⟩ => ⟨S256x4096, .i1⟩
  | .hbm, ⟨50, _⟩ => ⟨S_, .i32⟩
  | .hbm, ⟨51, _⟩ => ⟨S1x4096, .i32⟩
  | .hbm, ⟨52, _⟩ => ⟨S1x4096, .i1⟩
  | .hbm, ⟨53, _⟩ => ⟨S256x4096, .i1⟩
  | .hbm, ⟨54, _⟩ => ⟨S256x4096, .i1⟩
  | .hbm, ⟨55, _⟩ => ⟨S256x4096, .i32⟩
  | .hbm, ⟨56, _⟩ => ⟨S256x4096, .i32⟩
  | .hbm, ⟨57, _⟩ => ⟨S256x4096, .i32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S_, .i1⟩
  | .hbm, ⟨62, _⟩ => ⟨S_, .i32⟩
  | .hbm, ⟨63, _⟩ => ⟨S_, .i32⟩
  | .hbm, ⟨64, _⟩ => ⟨S256x4096, .i32⟩
  | .hbm, ⟨65, _⟩ => ⟨S256x4096, .i32⟩
  | .hbm, ⟨66, _⟩ => ⟨S_, .i32⟩
  | .hbm, ⟨67, _⟩ => ⟨S256x4096, .i32⟩
  | .hbm, ⟨68, _⟩ => ⟨S256x4096, .i1⟩
  | .hbm, ⟨69, _⟩ => ⟨S_, .i32⟩
  | .hbm, ⟨70, _⟩ => ⟨S256x4096, .i32⟩
  | .hbm, ⟨71, _⟩ => ⟨S256x4096, .i1⟩
  | .hbm, ⟨72, _⟩ => ⟨S_, .i32⟩
  | .hbm, ⟨73, _⟩ => ⟨S_, .i1⟩
  | .hbm, ⟨74, _⟩ => ⟨S256x4096, .i1⟩
  | .hbm, ⟨75, _⟩ => ⟨S256x4096, .i1⟩
  | .hbm, ⟨76, _⟩ => ⟨S256x4096, .i1⟩
  | .hbm, ⟨77, _⟩ => ⟨S256x4096, .i32⟩
  | .hbm, ⟨78, _⟩ => ⟨S256x4096, .i32⟩
  | .hbm, ⟨79, _⟩ => ⟨S256x4096, .i32⟩
  | .hbm, ⟨80, _⟩ => ⟨S_, .i32⟩
  | .hbm, ⟨81, _⟩ => ⟨S256x4096, .i32⟩
  | .hbm, ⟨82, _⟩ => ⟨S256x4096, .i1⟩
  | .hbm, ⟨83, _⟩ => ⟨S256x4096, .i1⟩
  | .hbm, ⟨84, _⟩ => ⟨S1x64x256x4096, .f32⟩
  | .hbm, ⟨85, _⟩ => ⟨S_, .f32⟩
  | .hbm, ⟨86, _⟩ => ⟨S1x64x256x4096, .f32⟩
  | .hbm, ⟨87, _⟩ => ⟨S1x64x256x4096, .f32⟩
  | .hbm, ⟨88, _⟩ => ⟨S1x1x256x4096, .i1⟩
  | .hbm, ⟨89, _⟩ => ⟨S_, .f32⟩
  | .hbm, ⟨90, _⟩ => ⟨S_, .f32⟩
  | .hbm, ⟨91, _⟩ => ⟨S1x64x256x4096, .i1⟩
  | .hbm, ⟨92, _⟩ => ⟨S1x64x256x4096, .f32⟩
  | .hbm, ⟨93, _⟩ => ⟨S1x64x256x4096, .f32⟩
  | .hbm, ⟨94, _⟩ => ⟨S_, .f32⟩
  | .hbm, ⟨95, _⟩ => ⟨S1x64x256, .f32⟩
  | .hbm, ⟨96, _⟩ => ⟨S1x64x256x1, .f32⟩
  | .hbm, ⟨97, _⟩ => ⟨S1x64x256x4096, .f32⟩
  | .hbm, ⟨98, _⟩ => ⟨S1x64x256x4096, .f32⟩
  | .hbm, ⟨99, _⟩ => ⟨S1x64x256x4096, .f32⟩
  | .hbm, ⟨100, _⟩ => ⟨S_, .i1⟩
  | .hbm, ⟨101, _⟩ => ⟨S256, .i1⟩
  | .hbm, ⟨102, _⟩ => ⟨S1x1x256x1, .i1⟩
  | .hbm, ⟨103, _⟩ => ⟨S_, .f32⟩
  | .hbm, ⟨104, _⟩ => ⟨S1x64x256, .f32⟩
  | .hbm, ⟨105, _⟩ => ⟨S1x64x256x1, .f32⟩
  | .hbm, ⟨106, _⟩ => ⟨S_, .f32⟩
  | .hbm, ⟨107, _⟩ => ⟨S_, .f32⟩
  | .hbm, ⟨108, _⟩ => ⟨S1x64x256x1, .i1⟩
  | .hbm, ⟨109, _⟩ => ⟨S1x64x256x1, .f32⟩
  | .hbm, ⟨110, _⟩ => ⟨S1x64x256x1, .f32⟩
  | .hbm, ⟨111, _⟩ => ⟨S1x64x256x4096, .f32⟩
  | .hbm, ⟨112, _⟩ => ⟨S1x64x256x4096, .f32⟩
  | .hbm, ⟨113, _⟩ => ⟨S1x1x256x1, .i1⟩
  | .hbm, ⟨114, _⟩ => ⟨S_, .f32⟩
  | .hbm, ⟨115, _⟩ => ⟨S_, .f32⟩
  | .hbm, ⟨116, _⟩ => ⟨S1x64x256x4096, .i1⟩
  | .hbm, ⟨117, _⟩ => ⟨S1x64x256x4096, .f32⟩
  | .hbm, ⟨118, _⟩ => ⟨S1x64x256x4096, .f32⟩
  | .hbm, ⟨119, _⟩ => ⟨S1x64x128x256, .f32⟩
  | .hbm, ⟨120, _⟩ => ⟨S1x256x64x128, .f32⟩
  | .hbm, ⟨121, _⟩ => ⟨S1x256x8192, .f32⟩
  | .hbm, ⟨122, _⟩ => ⟨S1x256x1024, .f32⟩
  | _, _ => ⟨S1x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c_1 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_c_2 : Ref sig .tc := ⟨.hbm, 58, rfl⟩
abbrev main_call2_v0 : Ref sig .tc := ⟨.hbm, 59, rfl⟩
abbrev main_call2_c : Ref sig .tc := ⟨.hbm, 60, rfl⟩
abbrev main_call2_v1 : Ref sig .tc := ⟨.hbm, 61, rfl⟩
abbrev main_call2_c_0 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_c_1 : Ref sig .tc := ⟨.hbm, 66, rfl⟩
abbrev main_call2_v5 : Ref sig .tc := ⟨.hbm, 67, rfl⟩
abbrev main_call2_v6 : Ref sig .tc := ⟨.hbm, 68, rfl⟩
abbrev main_call2_c_2 : Ref sig .tc := ⟨.hbm, 69, rfl⟩
abbrev main_call2_v7 : Ref sig .tc := ⟨.hbm, 70, rfl⟩
abbrev main_call2_v8 : Ref sig .tc := ⟨.hbm, 71, rfl⟩
abbrev main_call2_c_3 : Ref sig .tc := ⟨.hbm, 72, rfl⟩
abbrev main_call2_v9 : Ref sig .tc := ⟨.hbm, 73, rfl⟩
abbrev main_call2_v10 : Ref sig .tc := ⟨.hbm, 74, rfl⟩
abbrev main_call2_v11 : Ref sig .tc := ⟨.hbm, 75, rfl⟩
abbrev main_call2_v12 : Ref sig .tc := ⟨.hbm, 76, rfl⟩
abbrev main_call2_v13 : Ref sig .tc := ⟨.hbm, 77, rfl⟩
abbrev main_call2_v14 : Ref sig .tc := ⟨.hbm, 78, rfl⟩
abbrev main_v18 : Ref sig .tc := ⟨.hbm, 79, rfl⟩
abbrev main_c_3 : Ref sig .tc := ⟨.hbm, 80, rfl⟩
abbrev main_v19 : Ref sig .tc := ⟨.hbm, 81, rfl⟩
abbrev main_v20 : Ref sig .tc := ⟨.hbm, 82, rfl⟩
abbrev main_v21 : Ref sig .tc := ⟨.hbm, 83, rfl⟩
abbrev main_v22 : Ref sig .tc := ⟨.hbm, 84, rfl⟩
abbrev main_cst : Ref sig .tc := ⟨.hbm, 85, rfl⟩
abbrev main_v23 : Ref sig .tc := ⟨.hbm, 86, rfl⟩
abbrev main_v24 : Ref sig .tc := ⟨.hbm, 87, rfl⟩
abbrev main_v25 : Ref sig .tc := ⟨.hbm, 88, rfl⟩
abbrev main_cst_4 : Ref sig .tc := ⟨.hbm, 89, rfl⟩
abbrev main_call3_v0 : Ref sig .tc := ⟨.hbm, 90, rfl⟩
abbrev main_call3_v1 : Ref sig .tc := ⟨.hbm, 91, rfl⟩
abbrev main_call3_v2 : Ref sig .tc := ⟨.hbm, 92, rfl⟩
abbrev main_v26 : Ref sig .tc := ⟨.hbm, 93, rfl⟩
abbrev main_cst_5 : Ref sig .tc := ⟨.hbm, 94, rfl⟩
abbrev main_v27 : Ref sig .tc := ⟨.hbm, 95, rfl⟩
abbrev main_v28 : Ref sig .tc := ⟨.hbm, 96, rfl⟩
abbrev main_v29 : Ref sig .tc := ⟨.hbm, 97, rfl⟩
abbrev main_v30 : Ref sig .tc := ⟨.hbm, 98, rfl⟩
abbrev main_v31 : Ref sig .tc := ⟨.hbm, 99, rfl⟩
abbrev main_c_6 : Ref sig .tc := ⟨.hbm, 100, rfl⟩
abbrev main_v32 : Ref sig .tc := ⟨.hbm, 101, rfl⟩
abbrev main_v33 : Ref sig .tc := ⟨.hbm, 102, rfl⟩
abbrev main_cst_7 : Ref sig .tc := ⟨.hbm, 103, rfl⟩
abbrev main_v34 : Ref sig .tc := ⟨.hbm, 104, rfl⟩
abbrev main_v35 : Ref sig .tc := ⟨.hbm, 105, rfl⟩
abbrev main_cst_8 : Ref sig .tc := ⟨.hbm, 106, rfl⟩
abbrev main_call4_v0 : Ref sig .tc := ⟨.hbm, 107, rfl⟩
abbrev main_call4_v1 : Ref sig .tc := ⟨.hbm, 108, rfl⟩
abbrev main_call4_v2 : Ref sig .tc := ⟨.hbm, 109, rfl⟩
abbrev main_v36 : Ref sig .tc := ⟨.hbm, 110, rfl⟩
abbrev main_v37 : Ref sig .tc := ⟨.hbm, 111, rfl⟩
abbrev main_v38 : Ref sig .tc := ⟨.hbm, 112, rfl⟩
abbrev main_v39 : Ref sig .tc := ⟨.hbm, 113, rfl⟩
abbrev main_cst_9 : Ref sig .tc := ⟨.hbm, 114, rfl⟩
abbrev main_call5_v0 : Ref sig .tc := ⟨.hbm, 115, rfl⟩
abbrev main_call5_v1 : Ref sig .tc := ⟨.hbm, 116, rfl⟩
abbrev main_call5_v2 : Ref sig .tc := ⟨.hbm, 117, rfl⟩
abbrev main_v40 : Ref sig .tc := ⟨.hbm, 118, rfl⟩
abbrev main_v41 : Ref sig .tc := ⟨.hbm, 119, rfl⟩
abbrev main_v42 : Ref sig .tc := ⟨.hbm, 120, rfl⟩
abbrev main_v43 : Ref sig .tc := ⟨.hbm, 121, rfl⟩
abbrev main_v44 : Ref sig .tc := ⟨.hbm, 122, rfl⟩

abbrev nD : Nat := 1
abbrev τ : Topo := Topo.v7x

variable {F : FTy → Type} [FloatOps F]
-- ==== Proof.Proto.lean ====
/-
# The exchange: who talks to whom, on which semaphore, and what is handed over

Eight devices stand on a ring through a two by two by two box. `vb c` is the position of device `c` on it
and `peer c j` is the device whose position differs from that of `c` by the bits of `j + 1`; it is its own inverse.
Every device meets each of its seven peers three times: at the entry barrier, when the partial sums are
scattered, and when the finished blocks are gathered. This module fixes the cells, the amounts, and the payload of
every arrival with its contents, as one schedule of the rounds library; then what is owed, and the levels.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.Tactic
public import Idealize.ShloMosaic.Lib.ValueIdxCore

@[expose] public section

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.ValueIdx (ix2 ix3)

variable {F : FTy → Type} [FloatOps F]

/-! ## The resource algebra: the pipeline's copy, the exchange's cells, the local copies' counters -/

/-- The exchange's rounds: a duty is named by the index of the peer that performs it. -/
abbrev UB : Type := URounds (GSem nD τ sig) (Fin 7)
abbrev UU : Type := UR sig nD τ × (UB × Counters)

local notation "𝕄" => MT nD τ sig Unit (Elt F) ℕ UU ℕ

abbrev EP : Emb (UR sig nD τ) (MT nD τ sig Unit (Elt F) ℕ UU ℕ) := embL
/-- The exchange's cells: the left half of the right factor. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance

abbrev 𝒱₀ : Variants := Variants.none

/-! ## Positions and peers -/

/-- The position of a device on the ring: the devices two and three, and six and seven, change places. -/
def vb (c : Dev nD) : Fin 8 := ⟨(c.val ^^^ ((c.val >>> 1) &&& 1)) % 8, Nat.mod_lt _ (by decide)⟩
/-- The device at a position. -/
def vd (b : Fin 8) : Dev nD := ⟨(b.val ^^^ ((b.val >>> 1) &&& 1)) % 8, Nat.mod_lt _ (by decide)⟩
/-- The position met in step `j`. -/
def xo (b : Fin 8) (j : Fin 7) : Fin 8 := ⟨(b.val ^^^ (j.val + 1)) % 8, Nat.mod_lt _ (by decide)⟩
/-- The device met in step `j`. -/
def peer (c : Dev nD) (j : Fin 7) : Dev nD := vd (xo (vb c) j)

theorem vb_vd (b : Fin 8) : vb (vd b) = b := by revert b; decide
theorem vd_vb (c : Dev nD) : vd (vb c) = c := by revert c; decide
theorem xo_xo (b : Fin 8) (j : Fin 7) : xo (xo b j) j = b := by revert b j; decide
theorem vb_peer (c : Dev nD) (j : Fin 7) : vb (peer c j) = xo (vb c) j := vb_vd _
theorem peer_peer (c : Dev nD) (j : Fin 7) : peer (peer c j) j = c := by revert c j; decide
/-- The seven peers are the other devices: a position is one's own or that of exactly one peer. -/
theorem xo_injective (b : Fin 8) : Function.Injective (xo b) := by revert b; decide
theorem xo_ne (b : Fin 8) (j : Fin 7) : xo b j ≠ b := by revert b j; decide
theorem pos_cases (b b' : Fin 8) : b' = b ∨ ∃ j, b' = xo b j := by revert b b'; decide

/-- The kernel's own computation of a peer, barrier, scatter and gather alike. -/
theorem dev1_eq (c : Dev nD) : (⟨k0_dev1 c, k0_dev1_lt c⟩ : Dev nD) = peer c 0 := by revert c; decide +kernel
theorem dev2_eq (c : Dev nD) : (⟨k0_dev2 c, k0_dev2_lt c⟩ : Dev nD) = peer c 1 := by revert c; decide +kernel
theorem dev3_eq (c : Dev nD) : (⟨k0_dev3 c, k0_dev3_lt c⟩ : Dev nD) = peer c 2 := by revert c; decide +kernel
theorem dev4_eq (c : Dev nD) : (⟨k0_dev4 c, k0_dev4_lt c⟩ : Dev nD) = peer c 3 := by revert c; decide +kernel
theorem dev5_eq (c : Dev nD) : (⟨k0_dev5 c, k0_dev5_lt c⟩ : Dev nD) = peer c 4 := by revert c; decide +kernel
theorem dev6_eq (c : Dev nD) : (⟨k0_dev6 c, k0_dev6_lt c⟩ : Dev nD) = peer c 5 := by revert c; decide +kernel
theorem dev7_eq (c : Dev nD) : (⟨k0_dev7 c, k0_dev7_lt c⟩ : Dev nD) = peer c 6 := by revert c; decide +kernel
theorem dev8_eq (c : Dev nD) : (⟨k0_dev8 c, k0_dev8_lt c⟩ : Dev nD) = peer c 0 := by revert c; decide +kernel
theorem dev9_eq (c : Dev nD) : (⟨k0_dev9 c, k0_dev9_lt c⟩ : Dev nD) = peer c 1 := by revert c; decide +kernel
theorem dev10_eq (c : Dev nD) : (⟨k0_dev10 c, k0_dev10_lt c⟩ : Dev nD) = peer c 2 := by revert c; decide +kernel
theorem dev11_eq (c : Dev nD) : (⟨k0_dev11 c, k0_dev11_lt c⟩ : Dev nD) = peer c 3 := by revert c; decide +kernel
theorem dev12_eq (c : Dev nD) : (⟨k0_dev12 c, k0_dev12_lt c⟩ : Dev nD) = peer c 4 := by revert c; decide +kernel
theorem dev13_eq (c : Dev nD) : (⟨k0_dev13 c, k0_dev13_lt c⟩ : Dev nD) = peer c 5 := by revert c; decide +kernel
theorem dev14_eq (c : Dev nD) : (⟨k0_dev14 c, k0_dev14_lt c⟩ : Dev nD) = peer c 6 := by revert c; decide +kernel
theorem dev15_eq (c : Dev nD) : (⟨k0_dev15 c, k0_dev15_lt c⟩ : Dev nD) = peer c 0 := by revert c; decide +kernel
theorem dev16_eq (c : Dev nD) : (⟨k0_dev16 c, k0_dev16_lt c⟩ : Dev nD) = peer c 1 := by revert c; decide +kernel
theorem dev17_eq (c : Dev nD) : (⟨k0_dev17 c, k0_dev17_lt c⟩ : Dev nD) = peer c 2 := by revert c; decide +kernel
theorem dev18_eq (c : Dev nD) : (⟨k0_dev18 c, k0_dev18_lt c⟩ : Dev nD) = peer c 3 := by revert c; decide +kernel
theorem dev19_eq (c : Dev nD) : (⟨k0_dev19 c, k0_dev19_lt c⟩ : Dev nD) = peer c 4 := by revert c; decide +kernel
theorem dev20_eq (c : Dev nD) : (⟨k0_dev20 c, k0_dev20_lt c⟩ : Dev nD) = peer c 5 := by revert c; decide +kernel
theorem dev21_eq (c : Dev nD) : (⟨k0_dev21 c, k0_dev21_lt c⟩ : Dev nD) = peer c 6 := by revert c; decide +kernel

/-- The block of rows sent in step `j`, and the block of rows kept. -/
theorem off3_eq (c : Dev nD) (j : Fin 7) : k0_off3 c (BitVec.ofNat 32 (j.val + 1)) = ![32 * (xo (vb c) j).val, 0] := by revert c j; decide +kernel
theorem off4_eq (c : Dev nD) : k0_off4 c = ![32 * (vb c).val, 0] := by revert c; decide +kernel
theorem off5_eq (c : Dev nD) : k0_off5 c = ![32 * (vb c).val, 0] := by revert c; decide +kernel

/-! ## The buffers and the sets of elements that travel -/

abbrev wM : Memref sig .tc .vmem S256x1024 .bf16 := Memref.whole cc0_scratch4
abbrev sM : Memref sig .tc .vmem S7x32x1024 .bf16 := Memref.whole cc0_scratch5
abbrev wL (c : Dev nD) : Loc nD τ sig := (c : Thread nD τ).loc cc0_scratch4
abbrev sL (c : Dev nD) : Loc nD τ sig := (c : Thread nD τ).loc cc0_scratch5

/-- Contents of the sums' buffer and of the landing slots. -/
abbrev WC (F : FTy → Type) : Type := (cc0_scratch4 : Ref sig .tc).ty.Contents (Elt F)
abbrev SC (F : FTy → Type) : Type := (cc0_scratch5 : Ref sig .tc).ty.Contents (Elt F)

/-- The rows of block `b`; the landing slot `j`. -/
def blk (b : Fin 8) : Finset S256x1024.Idx := Finset.univ.filter fun i => (i 0).val / 32 = b.val
def slot (j : Fin 7) : Finset S7x32x1024.Idx := Finset.univ.filter fun i => (i 0).val = j.val

theorem mem_blk {b : Fin 8} {i : S256x1024.Idx} : i ∈ blk b ↔ (i 0).val / 32 = b.val := by simp [blk]
theorem mem_slot {j : Fin 7} {i : S7x32x1024.Idx} : i ∈ slot j ↔ (i 0).val = j.val := by simp [slot]

def wPts (c : Dev nD) (b : Fin 8) (f : WC F) : sProp 𝕄 := wL c ↦[blk b]{fullShare} f
def sPts (c : Dev nD) (j : Fin 7) (f : SC F) : sProp 𝕄 := sL c ↦[slot j]{fullShare} f

instance wPts_storable (c : Dev nD) (b) (f : WC F) : BI.Storable (upEmb : UEmb _ 𝕄) (wPts (F := F) c b f) := by unfold wPts; infer_instance
instance sPts_storable (c : Dev nD) (j) (f : SC F) : BI.Storable (upEmb : UEmb _ 𝕄) (sPts (F := F) c j f) := by unfold sPts; infer_instance

/-! ## Contents, as functions of the partial sums `W` of all devices -/

variable (W : Dev nD → WC F)

/-- What stands in the landing slots of device `c` once every peer has sent: in slot `j` the peer's sums of the rows
    that `c` keeps. -/
def slotsOf (c : Dev nD) : SC F := fun i =>
  W (peer c (i 0)) (ix2 (⟨32 * (vb c).val + (i 1).val, by have h := (vb c).isLt; have h2 : (i 1).val < 32 := (i 1).isLt; omega⟩ : Fin 256) (i 2))

theorem inbS (j : Fin 7) : ∀ a, (![j.val, 0, 0] : Fin 3 → ℕ) a + S1x32x1024.size a ≤ S7x32x1024.size a := by revert j; decide

/-- What a load of slot `j` reads then. -/
def ldS (c : Dev nD) (j : Fin 7) : Vec F S1x32x1024 .bf16 :=
  sM.view.readAt (Elt F) (Rect.unit (s := S7x32x1024) ![j.val, 0, 0] S1x32x1024.size (inbS j)).toLoadRect (slotsOf W c)
/-- What a load of the kept rows reads. -/
def ldW (c : Dev nD) : Vec F S32x1024 .bf16 :=
  wM.view.readAt (Elt F) (Rect.unit (s := S256x1024) (k0_off4 c) S32x1024.size (k0_off4_inb c)).toLoadRect (W c)

/-- The accumulation of the kept rows, in the kernel's order. -/
def accA (c : Dev nD) : FVec F S32x1024 .f32 := k0_pay31 (ldW W c) (ldS W c 0)
def accB (c : Dev nD) : FVec F S32x1024 .f32 := k0_pay32 (accA W c) (ldS W c 1) (ldS W c 2)
def accC (c : Dev nD) : FVec F S32x1024 .f32 := k0_pay33 (accB W c) (ldS W c 3)
def accD (c : Dev nD) : FVec F S32x1024 .f32 := k0_pay34 (accC W c) (ldS W c 4) (ldS W c 5)
/-- The finished rows of device `c`. -/
def acc (c : Dev nD) : FVec F S32x1024 .bf16 := k0_pay35 (accD W c) (ldS W c 6)

/-- The gathered array: in block `b` the finished rows of the device at position `b`. -/
def gath : WC F := fun i =>
  acc W (vd (⟨(i 0).val / 32, by have h : (i 0).val < 256 := (i 0).isLt; omega⟩ : Fin 8))
    (ix2 (⟨(i 0).val % 32, Nat.mod_lt _ (by decide)⟩ : Fin 32) (i 1))

/-! ## The cells -/

/-- The barrier semaphore of the launch. -/
abbrev barS : Sem sig := (SemArray.scalar (sig.barrier 0 rfl) : Sems sig S_).sem

/-- A cell of the exchange on a device: the barrier (`none`), or one of seven semaphores of the four arrays — scatter
    sent, scatter received, gather sent, gather received. -/
abbrev CK : Type := Option (Fin 4 × Fin 7)

def dsem (t : Fin 4) (j : Fin 7) : DmaSem sig := ⟨20 + (7 * t.val + j.val), by have := t.isLt; have := j.isLt; show _ < 48; omega⟩
abbrev csem : CK → SemLoc sig
  | none => .reg barS
  | some (t, j) => .dma (dsem t j)
/-- The cell a semaphore is, if it is one. -/
def kind : SemLoc sig → Option CK
  | .reg _ => some none
  | .dma q => if q.val < 20 then none
      else if h : q.val < 27 then some (some (0, ⟨q.val - 20, by omega⟩))
      else if h : q.val < 34 then some (some (1, ⟨q.val - 27, by omega⟩))
      else if h : q.val < 41 then some (some (2, ⟨q.val - 34, by omega⟩))
      else if h : q.val < 48 then some (some (3, ⟨q.val - 41, by omega⟩)) else none

theorem kind_csem (k : CK) : kind (csem k) = some k := by revert k; decide +kernel
theorem csem_injective : Function.Injective csem := fun a b h => Option.some.inj ((kind_csem a).symm.trans ((congrArg kind h).trans (kind_csem b)))
theorem kind_local (q : DmaSem sig) (h : q.val < 20) : kind (.dma q) = none := by unfold kind; exact if_pos h

abbrev kcell (ck : Dev nD × CK) : GSem nD τ sig := ((ck.1 : Thread nD τ), csem ck.2)
theorem kcell_injective : Function.Injective (kcell : Dev nD × CK → GSem nD τ sig) := by
  rintro ⟨c, k⟩ ⟨c', k'⟩ h
  have h1 : c = c' := congrArg (fun g : GSem nD τ sig => g.1.1) h
  have h2 : csem k = csem k' := congrArg Prod.snd h
  rw [h1, csem_injective h2]

abbrev barC (c : Dev nD) : GSem nD τ sig := kcell (c, none)
abbrev xC (t : Fin 4) (c : Dev nD) (j : Fin 7) : GSem nD τ sig := kcell (c, some (t, j))

/-- The credit of one block. -/
def N : ℕ := RefSig.tileCredit S32x1024 .bf16
theorem N_pos : 0 < N := RefSig.tileCredit_pos _ _ (by decide)

/-! ## The schedule -/

/-- The peer's signal hands over the slot of its landing buffer that `c` will write. -/
def barPay (c : Dev nD) (j : Fin 7) : sProp 𝕄 := iprop(∃ f : SC F, sPts (peer c j) j f)
/-- A scatter arrival: slot `j` with the peer's sums, and the peer's own block of the rows `c` keeps, to be written
    back by the gather. -/
def rsPay (c : Dev nD) (j : Fin 7) : sProp 𝕄 := iprop(sPts c j (slotsOf W c) ∗ wPts (peer c j) (vb c) (W (peer c j)))
/-- The gather's source share back. -/
def agsPay (c : Dev nD) (j : Fin 7) : sProp 𝕄 := wL c ↦[blk (vb c)]{shareTok fullShare 7 j} gath W
/-- A gather arrival: the peer's finished rows in place. -/
def agPay (c : Dev nD) (j : Fin 7) : sProp 𝕄 := wPts c (vb (peer c j)) (gath W)

/-- Duties, amounts and payloads by cell. -/
def kDuties : Option CK → Finset (Fin 7)
  | none => ∅
  | some none => Finset.univ
  | some (some _) => {0}
def kAmount : Option CK → ℕ
  | some none => 1
  | _ => N
def kPay (c : Dev nD) : Option CK → Fin 7 → sProp 𝕄
  | none, _ => iprop(emp)
  | some none, d => barPay c d
  | some (some (0, _)), _ => iprop(emp)
  | some (some (1, j)), _ => rsPay W c j
  | some (some (2, j)), _ => agsPay W c j
  | some (some (3, j)), _ => agPay W c j

/-- One round: every cell is used once. -/
def Rd : Rounds.Schedule (GSem nD τ sig) (Fin 7) 𝕄 where
  duties g r := if r = 0 then kDuties (kind g.2) else ∅
  unitless _ := False
  amount g _ _ := kAmount (kind g.2)
  payload g _ d := kPay W g.1.1 (kind g.2) d
  amount_pos g _ _ _ := by
    rcases kind g.2 with - | - | k
    · exact N_pos
    · exact Nat.one_pos
    · exact N_pos

instance Rd_payload_storable (g : GSem nD τ sig) (r : ℕ) (d : Fin 7) : BI.Storable (upEmb : UEmb _ 𝕄) ((Rd (F := F) W).payload g r d) := by
  show BI.Storable upEmb (kPay W g.1.1 (kind g.2) d)
  rcases kind g.2 with - | - | ⟨t, j⟩
  · unfold kPay; infer_instance
  · unfold kPay barPay; infer_instance
  · fin_cases t <;> (dsimp only [kPay]; first | infer_instance | (unfold rsPay; infer_instance) | (unfold agsPay; infer_instance) | (unfold agPay; infer_instance))

theorem duties_bar (c : Dev nD) : (Rd (F := F) W).duties (barC c) 0 = Finset.univ := rfl
theorem duties_x (c : Dev nD) (t j) : (Rd (F := F) W).duties (xC t c j) 0 = {0} := by
  show (if (0 : ℕ) = 0 then kDuties (kind (csem (some (t, j)))) else ∅) = _
  rw [if_pos rfl, kind_csem]; rfl
theorem duties_later (g : GSem nD τ sig) : ∀ r, 1 ≤ r → (Rd (F := F) W).duties g r = ∅ := fun r hr => if_neg (by omega)
theorem amount_bar (c : Dev nD) (d) : (Rd (F := F) W).amount (barC c) 0 d = 1 := rfl
theorem amount_x (c : Dev nD) (t j d) : (Rd (F := F) W).amount (xC t c j) 0 d = N := by
  show kAmount (kind (csem (some (t, j)))) = _
  rw [kind_csem]; rfl
theorem payload_bar (c : Dev nD) (d) : (Rd (F := F) W).payload (barC c) 0 d = barPay c d := rfl
theorem payload_x (c : Dev nD) (t j d) : (Rd (F := F) W).payload (xC t c j) 0 d = kPay W c (some (some (t, j))) d := by
  show kPay W c (kind (csem (some (t, j)))) d = _
  rw [kind_csem]
theorem expect_bar (c : Dev nD) : (Rd (F := F) W).expect (barC c) 0 = 7 := by
  unfold Schedule.expect Schedule.amountOf
  rw [duties_bar, Finset.sum_congr rfl fun d _ => amount_bar W c d, Finset.sum_const, Finset.card_univ, Fintype.card_fin, smul_eq_mul]
theorem expect_x (c : Dev nD) (t j) : (Rd (F := F) W).expect (xC t c j) 0 = N := by
  unfold Schedule.expect Schedule.amountOf; rw [duties_x, Finset.sum_singleton, amount_x]
theorem rest_bar (c : Dev nD) : bigSep ((Rd (F := F) W).duties (barC c) 0 \ ∅) (fun d => (Rd (F := F) W).payload (barC c) 0 d)
    = bigSep Finset.univ fun d => barPay (F := F) c d := by
  rw [Finset.sdiff_empty, duties_bar]; rfl
theorem rest_x (c : Dev nD) (t j) : bigSep ((Rd (F := F) W).duties (xC t c j) 0 \ ∅) (fun d => (Rd (F := F) W).payload (xC t c j) 0 d)
    = kPay W c (some (some (t, j))) 0 := by
  rw [Finset.sdiff_empty, duties_x, bigSep_singleton, payload_x]

/-! ## What is owed, and the levels -/

/-- The cell of a debt of device `c`: the peer's barrier, its scatter arrival, its gather arrival. -/
def oKind (x : Fin 3 × Fin 7) : CK := match x.1 with | 0 => none | 1 => some (1, x.2) | 2 => some (3, x.2)
def oAmt (x : Fin 3 × Fin 7) : ℕ := match x.1 with | 0 => 1 | _ => N
def oCell (c : Dev nD) (x : Fin 3 × Fin 7) : GSem nD τ sig := kcell (peer c x.2, oKind x)
/-- What the debts of a list come to; the head is paid first. -/
def owedOf (c : Dev nD) : List (Fin 3 × Fin 7) → CellTallies nD τ sig Unit
  | [] => 0
  | x :: l => owedOf c l + tallyAt (oCell c x) () (oAmt x)
/-- The debts of the body, in the order they are paid. -/
def debts : List (Fin 3 × Fin 7) :=
  [(0, 0), (0, 1), (0, 2), (0, 3), (0, 4), (0, 5), (0, 6), (1, 0), (1, 1), (1, 2), (1, 3), (1, 4), (1, 5), (1, 6),
    (2, 0), (2, 1), (2, 2), (2, 3), (2, 4), (2, 5), (2, 6)]

def L (g : GSem nD τ sig) : Finset Unit := if g.1.2 = .tc then {()} else ∅
/-- The barrier below the scatter arrivals below the gather arrivals; everything else lowest. -/
def kLv : Option CK → ℕ
  | none => 0
  | some none => 1
  | some (some (t, _)) => match t with | 0 => 0 | 1 => 2 | 2 => 0 | 3 => 3
def lv (g : GSem nD τ sig) (_ : Unit) : ℕ := kLv (kind g.2)

theorem L_of_ne (g : GSem nD τ sig) (h : g.1.2 ≠ .tc) : L g = ∅ := if_neg h
theorem L_tc (c : Dev nD) (sm : SemLoc sig) : L ((c : Thread nD τ), sm) = {()} := if_pos rfl

theorem owedOf_pos {c : Dev nD} {g : GSem nD τ sig} {u : Unit} : ∀ {l : List (Fin 3 × Fin 7)}, 0 < owedOf c l g u → ∃ x ∈ l, g = oCell c x
  | [], h => absurd h (Nat.lt_irrefl 0)
  | x :: l, h => by
    unfold owedOf at h
    rw [Pi.add_apply, Finsupp.add_apply, tallyAt_apply] at h
    by_cases hx : g = oCell c x
    · exact ⟨x, List.mem_cons_self, hx⟩
    · rw [if_neg fun h' => hx h'.1, Nat.add_zero] at h
      obtain ⟨y, hy, e⟩ := owedOf_pos h
      exact ⟨y, List.mem_cons_of_mem _ hy, e⟩

/-- A wait below the level of every remaining debt is allowed. -/
theorem mayWait (c : Dev nD) (sm : SemLoc sig) (l : List (Fin 3 × Fin 7)) (h : ∀ x ∈ l, kLv (kind sm) < kLv (some (oKind x))) :
    (levAts L lv : sProp 𝕄) ⊢ MayWait (c : Thread nD τ) sm () (owedOf c l) :=
  MayOwe.of_cut (L := L) (lev := lv) (kLv (kind sm)) (fun p hp => by rw [Finset.mem_singleton.mp hp, L_tc]; exact Finset.mem_singleton_self _)
    (fun g u hg => by obtain ⟨x, -, rfl⟩ := owedOf_pos hg; exact Finset.mem_singleton_self _)
    (fun p hp => by rw [Finset.mem_singleton.mp hp]; exact Nat.le_refl _)
    (fun g u hg => by
      obtain ⟨x, hx, rfl⟩ := owedOf_pos hg
      show _ < kLv (kind (csem (oKind x)))
      rw [kind_csem]; exact h x hx)

end Cert.Attn
-- ==== Proof.Geom.lean ====
/-
# The places the copies touch

The views a scatter or gather copy names, as sets of elements, and what arrives there, as contents: each copy leaves in
its destination exactly what the schedule's payload says stands there.
-/
module

public import proofs.«01_k».proof.Proof.Proto

@[expose] public section

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.ValueIdx (ix2 ix3)

variable {F : FTy → Type} [FloatOps F]

local notation "𝕄" => MT nD τ sig Unit (Elt F) ℕ UU ℕ

/-- A block of rows of the sums' buffer, at an offset. -/
abbrev blkV (off : Fin 2 → ℕ) (h : ∀ a, off a + S32x1024.size a ≤ S256x1024.size a) : Memref sig .tc .vmem S32x1024 .bf16 :=
  wM.slice (Rect.unit (s := S256x1024) off S32x1024.size h) (fun _ => rfl)
/-- A landing slot, at an offset, its unit axis dropped. -/
abbrev slotV (off : Fin 3 → ℕ) (h : ∀ a, off a + S1x32x1024.size a ≤ S7x32x1024.size a) : Memref sig .tc .vmem S32x1024 .bf16 :=
  (sM.slice (Rect.unit (s := S7x32x1024) off S1x32x1024.size h) (fun _ => rfl)).squeeze S32x1024 squeezes_S1x32x1024_S32x1024

theorem set_blkRect (b : Fin 8) {off : Fin 2 → ℕ} (hoff : off = ![32 * b.val, 0]) (h) :
    (Rect.unit (s := S256x1024) off S32x1024.size h).set = blk b := by
  subst hoff
  ext i
  rw [Rect.mem_set_unit, mem_blk]
  constructor
  · intro H
    have h0 : 32 * b.val ≤ (i 0).val ∧ (i 0).val < 32 * b.val + 32 := H 0
    omega
  · intro H a
    have h1 : (i 1).val < 1024 := (i 1).isLt
    fin_cases a
    · show 32 * b.val ≤ (i 0).val ∧ (i 0).val < 32 * b.val + 32
      omega
    · show 0 ≤ (i 1).val ∧ (i 1).val < 0 + 1024
      omega

theorem set_slotRect (j : Fin 7) {off : Fin 3 → ℕ} (hoff : off = ![j.val, 0, 0]) (h) :
    (Rect.unit (s := S7x32x1024) off S1x32x1024.size h).set = slot j := by
  subst hoff
  ext i
  rw [Rect.mem_set_unit, mem_slot]
  constructor
  · intro H
    have h0 : j.val ≤ (i 0).val ∧ (i 0).val < j.val + 1 := H 0
    omega
  · intro H a
    have h1 : (i 1).val < 32 := (i 1).isLt
    have h2 : (i 2).val < 1024 := (i 2).isLt
    fin_cases a
    · show j.val ≤ (i 0).val ∧ (i 0).val < j.val + 1
      omega
    · show 0 ≤ (i 1).val ∧ (i 1).val < 0 + 32
      omega
    · show 0 ≤ (i 2).val ∧ (i 2).val < 0 + 1024
      omega

theorem set_blkV (b : Fin 8) {off : Fin 2 → ℕ} (hoff : off = ![32 * b.val, 0]) (h) : (blkV off h).view.set = blk b :=
  (View.set_slice_whole _ _).trans (set_blkRect b hoff h)
theorem set_slotV (j : Fin 7) {off : Fin 3 → ℕ} (hoff : off = ![j.val, 0, 0]) (h) : (slotV off h).view.set = slot j :=
  ((View.set_reshape _ _).trans (View.set_slice_whole _ _)).trans (set_slotRect j hoff h)

/-- Where an element of a block stands. -/
theorem emb_blkV (b : Fin 8) {off : Fin 2 → ℕ} (hoff : off = ![32 * b.val, 0]) (h) (x : S32x1024.Idx) :
    (blkV off h).view.emb x = ix2 (⟨32 * b.val + (x 0).val, by have h1 : (x 0).val < 32 := (x 0).isLt; have := b.isLt; omega⟩ : Fin 256) (x 1) := by
  subst hoff
  funext a
  fin_cases a
  · exact Fin.ext (show 32 * b.val + 1 * (x 0).val = 32 * b.val + (x 0).val by rw [Nat.one_mul])
  · exact Fin.ext (show 0 + 1 * (x 1).val = (x 1).val by omega)

/-- Where an element of a slot stands. -/
theorem emb_slotV (j : Fin 7) {off : Fin 3 → ℕ} (hoff : off = ![j.val, 0, 0]) (h) (x : S32x1024.Idx) :
    (slotV off h).view.emb x = ix3 j (x 0) (x 1) := by
  subst hoff
  show (Rect.unit (s := S7x32x1024) ![j.val, 0, 0] S1x32x1024.size h).emb (Shape.reshapeEquiv _ x) = _
  rw [Shape.reshapeEquiv_cons_one]
  funext a
  fin_cases a
  · exact Fin.ext (show j.val + 1 * 0 = j.val by omega)
  · exact Fin.ext (show 0 + 1 * (x 0).val = (x 0).val by omega)
  · exact Fin.ext (show 0 + 1 * (x 1).val = (x 1).val by omega)

variable (W : Dev nD → WC F)

/-- What a scatter copy leaves in the peer's slot. -/
theorem landed_slot (c : Dev nD) (j : Fin 7) {off : Fin 2 → ℕ} (hoff : off = ![32 * (xo (vb c) j).val, 0]) (h)
    {off' : Fin 3 → ℕ} (hoff' : off' = ![j.val, 0, 0]) (h') (fd : SC F) :
    ∀ i ∈ slot j, (slotV off' h').view.write (Elt F) fd ((blkV off h).view.read (Elt F) (W c)) Finset.univ i = slotsOf W (peer c j) i := by
  intro i hi
  obtain ⟨x, hx⟩ : ∃ x, (slotV off' h').view.emb x = i := by
    rw [← set_slotV j hoff' h'] at hi
    obtain ⟨x, -, e⟩ := Finset.mem_map.mp hi
    exact ⟨x, e⟩
  subst hx
  rw [View.write_emb_of_mem _ _ (Finset.mem_univ _), View.read_apply, emb_blkV _ hoff h, emb_slotV j hoff' h']
  show W c _ = W (peer (peer c j) j) _
  rw [peer_peer]
  refine congrArg (W c) (funext fun a => ?_)
  fin_cases a
  · exact Fin.ext (show 32 * (xo (vb c) j).val + (x 0).val = 32 * (vb (peer c j)).val + (x 0).val by rw [vb_peer])
  · rfl

/-- What a gather copy leaves in the peer's block. -/
theorem landed_blk (b : Fin 8) {off : Fin 2 → ℕ} (hoff : off = ![32 * b.val, 0]) (h) (f fd : WC F) :
    ∀ i ∈ blk b, (blkV off h).view.write (Elt F) fd ((blkV off h).view.read (Elt F) f) Finset.univ i = f i := by
  intro i hi
  obtain ⟨x, hx⟩ : ∃ x, (blkV off h).view.emb x = i := by
    rw [← set_blkV b hoff h] at hi
    obtain ⟨x, -, e⟩ := Finset.mem_map.mp hi
    exact ⟨x, e⟩
  subst hx
  rw [View.write_emb_of_mem _ _ (Finset.mem_univ _), View.read_apply]
  rfl

/-- What the store of the finished rows leaves in the kept block. -/
theorem stored_blk (c : Dev nD) {off : Fin 2 → ℕ} (hoff : off = ![32 * (vb c).val, 0]) (h) (fd : WC F) :
    ∀ i ∈ blk (vb c), (wM.access (Rect.unit (s := S256x1024) off S32x1024.size h) : View sig .tc _ _ _).write (Elt F) fd (acc W c) Finset.univ i = gath W i := by
  intro i hi
  obtain ⟨x, hx⟩ : ∃ x, (blkV off h).view.emb x = i := by
    rw [← set_blkV _ hoff h] at hi
    obtain ⟨x, -, e⟩ := Finset.mem_map.mp hi
    exact ⟨x, e⟩
  subst hx
  refine (View.write_emb_of_mem (v := (blkV off h).view) _ _ (Finset.mem_univ x)).trans ?_
  rw [emb_blkV _ hoff h]
  have h0 : (x 0).val < 32 := (x 0).isLt
  show acc W c x = acc W (vd _) _
  have e1 : ∀ (p : (32 * (vb c).val + (x 0).val) / 32 < 8), vd ⟨(32 * (vb c).val + (x 0).val) / 32, p⟩ = c := fun p => by
    rw [show (⟨(32 * (vb c).val + (x 0).val) / 32, p⟩ : Fin 8) = vb c from Fin.ext (by show (32 * (vb c).val + (x 0).val) / 32 = (vb c).val; omega), vd_vb]
  refine (congrArg₂ (fun d y => acc W d y) (e1 _) (funext fun a => ?_)).symm
  fin_cases a
  · exact Fin.ext (show (32 * (vb c).val + (x 0).val) % 32 = (x 0).val by omega)
  · rfl

/-! ## Whole buffers in pieces -/

theorem blk_disjoint {b b' : Fin 8} (h : b ≠ b') : Disjoint (blk b) (blk b') :=
  Finset.disjoint_left.mpr fun i hi hi' => h (Fin.ext ((mem_blk.mp hi).symm.trans (mem_blk.mp hi')))
theorem slot_disjoint {j j' : Fin 7} (h : j ≠ j') : Disjoint (slot j) (slot j') :=
  Finset.disjoint_left.mpr fun i hi hi' => h (Fin.ext ((mem_slot.mp hi).symm.trans (mem_slot.mp hi')))
/-- The buffer is the kept block and the seven others. -/
theorem blk_cover (b : Fin 8) : (Finset.univ : Finset S256x1024.Idx) = blk b ∪ Finset.univ.biUnion fun j => blk (xo b j) := by
  ext i
  have h : (i 0).val < 256 := (i 0).isLt
  simp only [Finset.mem_univ, Finset.mem_union, Finset.mem_biUnion, true_and, true_iff]
  rcases pos_cases b ⟨(i 0).val / 32, by omega⟩ with e | ⟨j, e⟩
  · exact .inl (mem_blk.mpr (congrArg Fin.val e))
  · exact .inr ⟨j, mem_blk.mpr (congrArg Fin.val e)⟩
theorem slot_cover : (Finset.univ : Finset S7x32x1024.Idx) = Finset.univ.biUnion slot := by
  ext i
  simp only [Finset.mem_univ, Finset.mem_biUnion, true_and, true_iff]
  exact ⟨i 0, mem_slot.mpr rfl⟩

/-- The sums' buffer, whole, is its kept block and the seven others. -/
theorem wPts_all (c : Dev nD) (f : WC F) :
    ((wL c ↦{fullShare} f : sProp 𝕄)) ⊣⊢ iprop(wPts c (vb c) f ∗ bigSep Finset.univ fun j : Fin 7 => wPts c (xo (vb c) j) f) := by
  have e := pointsTo_biUnion (Ix := Unit) (Name := ℕ) (U := UU) (Lvl := ℕ) (ℓ := wL c) (q := fullShare) (f := f) Finset.univ (fun j : Fin 7 => blk (xo (vb c) j))
    fun j _ j' _ h => blk_disjoint fun e => h (xo_injective _ e)
  have hd : Disjoint (blk (vb c)) (Finset.univ.biUnion fun j : Fin 7 => blk (xo (vb c) j)) :=
    (Finset.disjoint_biUnion_right _ _ _).mpr fun j _ => blk_disjoint (xo_ne _ j).symm
  have u := pointsTo_union (Ix := Unit) (Name := ℕ) (U := UU) (Lvl := ℕ) (ℓ := wL c) (q := fullShare) (f := f) hd
  rw [e, ← blk_cover (vb c)] at u
  exact u
/-- The landing buffer, whole, is its seven slots. -/
theorem sPts_all (c : Dev nD) (f : SC F) :
    ((sL c ↦{fullShare} f : sProp 𝕄)) = bigSep Finset.univ fun j : Fin 7 => sPts c j f := by
  have e := pointsTo_biUnion (Ix := Unit) (Name := ℕ) (U := UU) (Lvl := ℕ) (ℓ := sL c) (q := fullShare) (f := f) Finset.univ slot
    fun j _ j' _ h => slot_disjoint h
  rw [← slot_cover] at e
  exact e

end Cert.Attn
-- ==== Proof.Comm.lean ====
/-
# The steps of the exchange

One rule per kind of step, at any device `c` and step `j`: a barrier signal, the barrier wait, a scatter send, a
gather send, and the wait on any of the four arrays of semaphores. A wait hands over the arrival's payload and, the
cell being used once, the semaphore back at zero. What device `c` still owes is a list of debts whose head is paid.
-/
module

public import proofs.«01_k».proof.Proof.Geom

@[expose] public section

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F]

local notation "𝕄" => MT nD τ sig Unit (Elt F) ℕ UU ℕ

variable (W : Dev nD → WC F)

/-! ## What every device knows: all invariants, all cells at their round -/

def recs (κ : Dev nD × CK → ℕ) : sProp 𝕄 :=
  iprop((bigSep Finset.univ fun ck : Dev nD × CK => cellInv ER (Rd W) (κ ck) (kcell ck))
    ∗ (bigSep Finset.univ fun ck : Dev nD × CK => reached ER (kcell ck) 0) ∗ levAts L lv)

instance recs_persistent (κ : Dev nD × CK → ℕ) : BI.Persistent (recs W κ) := by unfold recs; infer_instance

theorem recs_inv (κ : Dev nD × CK → ℕ) (ck : Dev nD × CK) : recs W κ ⊢ cellInv ER (Rd W) (κ ck) (kcell ck) := by
  unfold recs
  exact sep_elim_left.trans (bigSep_elim (Φ := fun ck : Dev nD × CK => (cellInv ER (Rd W) (κ ck) (kcell ck) : sProp 𝕄)) (Finset.mem_univ ck))
theorem recs_reached (κ : Dev nD × CK → ℕ) (ck : Dev nD × CK) : recs W κ ⊢ reached ER (kcell ck) 0 := by
  unfold recs
  exact sep_elim_right.trans (sep_elim_left.trans (bigSep_elim (Φ := fun ck : Dev nD × CK => (reached ER (kcell ck) 0 : sProp 𝕄)) (Finset.mem_univ ck)))
theorem recs_lev (κ : Dev nD × CK → ℕ) : recs W κ ⊢ levAts L lv := by
  unfold recs
  exact sep_elim_right.trans sep_elim_right

/-- What device `c` owes: the debts of a list. Which waits it has made is not kept. -/
def ow (c : Dev nD) (l : List (Fin 3 × Fin 7)) : sProp 𝕄 := iprop(∃ Wt, owes (c : Thread nD τ) (owedOf c l) Wt)

variable (κ : Dev nD × CK → ℕ) (c : Dev nD)

abbrev wpB {α : Type} (p : Prog (TpuEff nD τ sig (Elt F) Λ₀ .tc) α) (Q : α → sProp 𝕄) : sProp 𝕄 :=
  wp frame (wpE (defs₀ (F := F)) 𝒱₀ (c : Thread nD τ) none) Set.univ p Q

/-- The entry signal to the peer of step `j`, with the landing slot it will write. -/
theorem wp_barSig {α : Type} {Q : α → sProp 𝕄} {k : PUnit → Prog (TpuEff nD τ sig (Elt F) Λ₀ .tc) α} (j : Fin 7) (l : List (Fin 3 × Fin 7)) {p : Dev nD} (hp : p = peer c j) :
    iprop(recs W κ ∗ ow c ((0, j) :: l) ∗ dutyTok ER (barC (peer c j)) 0 j ∗ (∃ f : SC F, sPts c j f))
      ⊢ iprop((ow c l -∗ wpB c (k ⟨⟩) Q) -∗ wpB c (.op (.semSignal (p : Thread nD τ) barS (1#32 : BitVec 32).toInt) k) Q) := by
  subst hp
  unfold ow
  iintro ⟨#HR, ⟨%Wt, HO⟩, Ht, Hs⟩ Hk
  ihave HI := (recs_inv W κ (peer c j, none)) $$ HR
  ihave Hr := (recs_reached W κ (peer c j, none)) $$ HR
  iapply (Rounds.wp_signal 𝒱₀ ER (Rd W) (c : Thread nD τ) none (dst := (peer c j : Thread nD τ)) (κ := κ (peer c j, none))
      (d := j) (by rw [duties_bar W (peer c j)]; exact Finset.mem_univ _) ((amount_bar W (peer c j) j).trans (by decide)) () (owedOf c l) rfl)
    $$ [HO Ht Hs HI Hr]
  · isplitl [HI]; · iexact HI
    isplitl [HO]; · iexact HO
    isplitl [Ht]; · iexact Ht
    isplitl [Hs]
    · iapply (Entails.of_eq (payload_bar W (peer c j) j).symm); unfold barPay; rw [peer_peer]; iexact Hs
    iexact Hr
  iintro HO
  iapply Hk; iexists Wt; iexact HO

/-- The entry wait: from each peer, the slot of its landing buffer that `c` will write. -/
theorem wp_barWait {α : Type} {Q : α → sProp 𝕄} {k : PUnit → Prog (TpuEff nD τ sig (Elt F) Λ₀ .tc) α} (l : List (Fin 3 × Fin 7)) (hl : ∀ x ∈ l, 1 < kLv (some (oKind x))) :
    iprop(recs W κ ∗ ow c l ∗ cred (tallyAt (barC c) () 7) ∗ atPos ER (barC c) 0 ∅ 0)
      ⊢ iprop(((ow c l ∗ semVal (barC c) 0 ∗ bigSep Finset.univ fun j : Fin 7 => barPay (F := F) c j) -∗ wpB c (k ⟨⟩) Q)
          -∗ wpB c (.op (.semWait barS (7#32 : BitVec 32).toInt) k) Q) := by
  unfold ow
  iintro ⟨#HR, ⟨%Wt, HO⟩, Hc, Hat⟩ Hk
  ihave #HI := (recs_inv W κ (c, none)) $$ HR
  ihave Hl := (recs_lev W κ) $$ HR
  ihave HM := (mayWait c (.reg barS) l hl) $$ Hl
  iapply (Rounds.wp_wait_rest_token 𝒱₀ ER (Rd W) (c : Thread nD τ) none (κ := κ (c, none))
      (wpE_semWait_eq 𝒱₀ (c : Thread nD τ) none Set.univ) (Set.mem_univ _) () (O := owedOf c l) (W := Wt) (R := 0) (m := 0) (T := ∅)
      (by rw [expect_bar W c]; decide)) $$ [Hc HO Hat HM]
  · isplitr; · iexact HI
    isplitl [Hc]; · iexact Hc
    isplitl [HO]; · iexact HO
    isplitl [HM]; · iexact HM
    iexact Hat
  iintro ⟨HO, Hat, -, Hpay⟩
  ihave Hp := (Entails.of_eq (rest_bar W c)) $$ Hpay
  imod (Rounds.cell_close ER (Rd W) (Set.mem_univ (κ (c, none))) (fun h => h) (R := 0 + 1) (duties_later W (barC c))) $$ [Hat] with Hz
  · isplitr; · iexact HI
    iexact Hat
  iapply Hk
  isplitl [HO]; · iexists _; iexact HO
  isplitl [Hz]; · iexact Hz
  iexact Hp

/-- The scatter send of step `j`: the block of rows the peer keeps goes to the peer's slot `j`. -/
theorem wp_rsSend {α : Type} {Q : α → sProp 𝕄} {k : PUnit → Prog (TpuEff nD τ sig (Elt F) Λ₀ .tc) α} (j : Fin 7) (l : List (Fin 3 × Fin 7)) {p : Dev nD} (hp : p = peer c j)
    {off : Fin 2 → ℕ} (hoff : off = ![32 * (xo (vb c) j).val, 0]) {h} {off' : Fin 3 → ℕ} (hoff' : off' = ![j.val, 0, 0]) {h'}
    {sS sR : DmaSem sig} (hS : sS = dsem 0 j) (hR : sR = dsem 1 j)
    {hsc : (slotV off' h' : Memref sig (Dev.tc p : Thread nD τ).2.kind .vmem S32x1024 .bf16).view.ref.isScScratch = false}
    {hsrc : (blkV off h).view.WordExact} {hdst : (slotV off' h').view.WordExact}
    {hsem : DmaTarget.Typed .vmem (.dma sR) (.remote (Dev.tc p : Thread nD τ) (slotV off' h') (.dma sS) hsc)} :
    iprop(recs W κ ∗ ow c ((1, j) :: l) ∗ dutyTok ER (xC 0 c j) 0 0 ∗ dutyTok ER (xC 1 (peer c j) j) 0 0
        ∗ wPts c (xo (vb c) j) (W c) ∗ barPay (F := F) c j)
      ⊢ iprop(((cred (tallyAt (xC 0 c j) () N) ∗ ow c l) -∗ wpB c (k ⟨⟩) Q)
          -∗ wpB c (.op (.enqueueDma (blkV off h) (.remote (Dev.tc p : Thread nD τ) (slotV off' h') (.dma sS) hsc) (.dma sR) hsrc hdst hsem) k) Q) := by
  subst hp hS hR
  unfold ow wPts barPay sPts
  iintro ⟨#HR, ⟨%Wt, HO⟩, Ht1, Ht2, Hw, ⟨%fd, Hs⟩⟩ Hk
  ihave HI1 := (recs_inv W κ (c, some (0, j))) $$ HR
  ihave HI2 := (recs_inv W κ (peer c j, some (1, j))) $$ HR
  ihave Hr1 := (recs_reached W κ (c, some (0, j))) $$ HR
  ihave Hr2 := (recs_reached W κ (peer c j, some (1, j))) $$ HR
  rw [← set_blkV (xo (vb c) j) hoff h, ← set_slotV j hoff' h']
  iapply (Rounds.wp_send_landing_pointsTo 𝒱₀ ER (Rd W) (c : Thread nD τ) none (κ₁ := κ (c, some (0, j))) (κ₂ := κ (peer c j, some (1, j)))
    (r₁ := 0) (r₂ := 0) (d₁ := 0) (d₂ := 0) (fd := fd) (fs := W c) (q := fullShare)
    (by rw [duties_x W c 0 j]; exact Finset.mem_singleton_self _) (by rw [duties_x W (peer c j) 1 j]; exact Finset.mem_singleton_self _)
    () () N rfl (amount_x W c 0 j 0) (amount_x W (peer c j) 1 j 0) (owedOf c l) rfl (W := Wt)
    (Entails.of_eq (payload_x W c 0 j 0).symm)
    (by
      refine BIBase.Entails.trans ?_ (Entails.of_eq (payload_x W (peer c j) 1 j 0).symm)
      show _ ⊢ rsPay W (peer c j) j
      unfold rsPay sPts wPts
      rw [set_blkV (xo (vb c) j) hoff h, set_slotV j hoff' h', peer_peer, vb_peer]
      exact sep_mono_left (Entails.of_eq (pointsTo_congr (landed_slot W c j hoff h hoff' h' fd))))) $$ [HI1 HI2 Hw Hs HO Ht1 Hr1 Ht2 Hr2]
  · isplitl [HI1]; · iexact HI1
    isplitl [HI2]; · iexact HI2
    isplitl [Hw]; · iexact Hw
    isplitl [Hs]; · iexact Hs
    isplitl [HO]; · iexact HO
    isplitl [Ht1]; · iexact Ht1
    isplitl [Hr1]; · iexact Hr1
    isplitl [Ht2]; · iexact Ht2
    iexact Hr2
  iintro ⟨Hc, HO⟩
  iapply Hk
  isplitl [Hc]; · iexact Hc
  iexists Wt; iexact HO

/-- The gather send of step `j`: the finished rows go to the peer's copy of the kept block, which the scatter handed over. -/
theorem wp_agSend {α : Type} {Q : α → sProp 𝕄} {k : PUnit → Prog (TpuEff nD τ sig (Elt F) Λ₀ .tc) α} (j : Fin 7) (l : List (Fin 3 × Fin 7)) {p : Dev nD} (hp : p = peer c j)
    {off off' : Fin 2 → ℕ} (hoff : off = ![32 * (vb c).val, 0]) (hoff' : off' = off) {h h'}
    {sS sR : DmaSem sig} (hS : sS = dsem 2 j) (hR : sR = dsem 3 j)
    {hsc : (blkV off' h' : Memref sig (Dev.tc p : Thread nD τ).2.kind .vmem S32x1024 .bf16).view.ref.isScScratch = false}
    {hsrc : (blkV off h).view.WordExact} {hdst : (blkV off' h').view.WordExact}
    {hsem : DmaTarget.Typed .vmem (.dma sR) (.remote (Dev.tc p : Thread nD τ) (blkV off' h') (.dma sS) hsc)} (fd : WC F) :
    iprop(recs W κ ∗ ow c ((2, j) :: l) ∗ dutyTok ER (xC 2 c j) 0 0 ∗ dutyTok ER (xC 3 (peer c j) j) 0 0
        ∗ agsPay W c j ∗ wPts (peer c j) (vb c) fd)
      ⊢ iprop(((cred (tallyAt (xC 2 c j) () N) ∗ ow c l) -∗ wpB c (k ⟨⟩) Q)
          -∗ wpB c (.op (.enqueueDma (blkV off h) (.remote (Dev.tc p : Thread nD τ) (blkV off' h') (.dma sS) hsc) (.dma sR) hsrc hdst hsem) k) Q) := by
  subst hp hS hR hoff'
  unfold ow agsPay wPts
  iintro ⟨#HR, ⟨%Wt, HO⟩, Ht1, Ht2, Hw, Hs⟩ Hk
  ihave HI1 := (recs_inv W κ (c, some (2, j))) $$ HR
  ihave HI2 := (recs_inv W κ (peer c j, some (3, j))) $$ HR
  ihave Hr1 := (recs_reached W κ (c, some (2, j))) $$ HR
  ihave Hr2 := (recs_reached W κ (peer c j, some (3, j))) $$ HR
  rw [← set_blkV (vb c) hoff h]
  iapply (Rounds.wp_send_pointsTo 𝒱₀ ER (Rd W) (c : Thread nD τ) none (κ₁ := κ (c, some (2, j))) (κ₂ := κ (peer c j, some (3, j)))
    (r₁ := 0) (r₂ := 0) (d₁ := 0) (d₂ := 0) (fd := fd) (fs := gath W) (q := shareTok fullShare 7 j)
    (by rw [duties_x W c 2 j]; exact Finset.mem_singleton_self _) (by rw [duties_x W (peer c j) 3 j]; exact Finset.mem_singleton_self _)
    () () N rfl (amount_x W c 2 j 0) (amount_x W (peer c j) 3 j 0) (owedOf c l) rfl (W := Wt)
    (by
      refine BIBase.Entails.trans ?_ (Entails.of_eq (payload_x W c 2 j 0).symm)
      show _ ⊢ agsPay W c j
      unfold agsPay
      rw [set_blkV (vb c) hoff h])
    (by
      refine BIBase.Entails.trans ?_ (Entails.of_eq (payload_x W (peer c j) 3 j 0).symm)
      show _ ⊢ agPay W (peer c j) j
      unfold agPay wPts
      rw [set_blkV (vb c) hoff h, peer_peer]
      exact Entails.of_eq (pointsTo_congr (landed_blk (vb c) hoff h (gath W) fd)))) $$ [HI1 HI2 Hw Hs HO Ht1 Hr1 Ht2 Hr2]
  · isplitl [HI1]; · iexact HI1
    isplitl [HI2]; · iexact HI2
    isplitl [Hw]; · iexact Hw
    isplitl [Hs]; · iexact Hs
    isplitl [HO]; · iexact HO
    isplitl [Ht1]; · iexact Ht1
    isplitl [Hr1]; · iexact Hr1
    isplitl [Ht2]; · iexact Ht2
    iexact Hr2
  iintro ⟨Hc, HO⟩
  iapply Hk
  isplitl [Hc]; · iexact Hc
  iexists Wt; iexact HO

/-- A wait on a scatter or gather semaphore: the arrival's payload, and the semaphore at zero. -/
theorem wp_xWait {α : Type} {Q : α → sProp 𝕄} {k : PUnit → Prog (TpuEff nD τ sig (Elt F) Λ₀ .tc) α} (t : Fin 4) (j : Fin 7) (l : List (Fin 3 × Fin 7)) (hl : ∀ x ∈ l, kLv (some (some (t, j))) < kLv (some (oKind x)))
    {s : DmaSem sig} (hs : s = dsem t j) {sp sp' : Space} {s' : Shape} {e' : EltTy} {src : Memref sig .tc sp' s' e'} {dst : Memref sig .tc sp S32x1024 .bf16}
    {hsrc : src.view.WordExact} {hdst : dst.view.WordExact} :
    iprop(recs W κ ∗ ow c l ∗ cred (tallyAt (xC t c j) () N) ∗ atPos ER (xC t c j) 0 ∅ 0)
      ⊢ iprop(((ow c l ∗ semVal (xC t c j) 0 ∗ kPay W c (some (some (t, j))) 0) -∗ wpB c (k ⟨⟩) Q)
          -∗ wpB c (.op (.waitDma2 s src dst hsrc hdst) k) Q) := by
  subst hs
  unfold ow
  iintro ⟨#HR, ⟨%Wt, HO⟩, Hc, Hat⟩ Hk
  ihave #HI := (recs_inv W κ (c, some (t, j))) $$ HR
  ihave Hl := (recs_lev W κ) $$ HR
  ihave HM := (mayWait c (csem (some (t, j))) l (by rw [kind_csem]; exact hl)) $$ Hl
  iapply (Rounds.wp_wait_rest_token 𝒱₀ ER (Rd W) (c : Thread nD τ) none (κ := κ (c, some (t, j)))
      (wpE_waitDma2_eq 𝒱₀ (c : Thread nD τ) none Set.univ) (Set.mem_univ _) () (O := owedOf c l) (W := Wt) (R := 0) (m := 0) (T := ∅)
      (by rw [Nat.zero_add]; exact (expect_x W c t j).symm)) $$ [Hc HO Hat HM]
  · isplitr; · iexact HI
    isplitl [Hc]; · iexact Hc
    isplitl [HO]; · iexact HO
    isplitl [HM]; · iexact HM
    iexact Hat
  iintro ⟨HO, Hat, -, Hpay⟩
  ihave Hp := (Entails.of_eq (rest_x W c t j)) $$ Hpay
  imod (Rounds.cell_close ER (Rd W) (Set.mem_univ (κ (c, some (t, j)))) (fun h => h) (R := 0 + 1) (duties_later W (xC t c j))) $$ [Hat] with Hz
  · isplitr; · iexact HI
    iexact Hat
  iapply Hk
  isplitl [HO]; · iexists _; iexact HO
  isplitl [Hz]; · iexact Hz
  iexact Hp

end Cert.Attn
-- ==== Proof.Local.lean ====
/-
# The local copies

Each device copies its columns of the query weights, its rows of the output weights, and its eight heads of keys and
values into its own memory, one semaphore each. The eight copies of the keys read disjoint parts of the argument and
fill disjoint parts of the buffer, so each is held by the heads; what a finished copy leaves is named once, as contents
of the whole buffer.
-/
module

public import proofs.«01_k».proof.Proof.Comm

@[expose] public section

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight Flight_mono)
open Idealize.ShloMosaic.ValueIdx (ix2 ix3 ix4)

variable {F : FTy → Type} [FloatOps F]

local notation "𝕄" => MT nD τ sig Unit (Elt F) ℕ UU ℕ

/-- The counters of the local copies. -/
abbrev EC : UEmb Counters 𝕄 := countersEmb (nD := nD) (τ := τ) (sig := sig) (Ix := Unit) (Val := Elt F) (Name := ℕ) (U := UU) (Lvl := ℕ)

/-! ## Buffers, locations, contents -/

abbrev kM : Memref sig .tc .vmem S8x4096x128 .f32 := Memref.whole cc0_scratch2
abbrev vM : Memref sig .tc .vmem S8x4096x128 .f32 := Memref.whole cc0_scratch3
abbrev wqM : Memref sig .tc .vmem S1024x1024 .f32 := Memref.whole cc0_scratch0
abbrev woM : Memref sig .tc .vmem S1024x1024 .f32 := Memref.whole cc0_scratch1
abbrev a1M : Memref sig .tc .hbm S1024x8192 .f32 := Memref.whole main_arg1
abbrev a2M : Memref sig .tc .hbm S1x4096x8x128 .f32 := Memref.whole main_arg2
abbrev a3M : Memref sig .tc .hbm S1x4096x8x128 .f32 := Memref.whole main_arg3
abbrev a4M : Memref sig .tc .hbm S8192x1024 .f32 := Memref.whole main_arg4

abbrev loc (c : Dev nD) (r : Ref sig .tc) : Loc nD τ sig := (c : Thread nD τ).loc r
abbrev Con (F : FTy → Type) (r : Ref sig .tc) : Type := r.ty.Contents (Elt F)

/-- Head `h` of a buffer of keys or values; head `h` of an argument of keys or values. -/
def head (h : Fin 8) : Finset S8x4096x128.Idx := Finset.univ.filter fun i => (i 0).val = h.val
def headA (h : Fin 8) : Finset S1x4096x8x128.Idx := Finset.univ.filter fun i => (i 2).val = h.val
theorem mem_head {h : Fin 8} {i : S8x4096x128.Idx} : i ∈ head h ↔ (i 0).val = h.val := by simp [head]
theorem mem_headA {h : Fin 8} {i : S1x4096x8x128.Idx} : i ∈ headA h ↔ (i 2).val = h.val := by simp [headA]

/-- The buffer of keys (or values) once all heads of the argument have been copied. -/
def kvT (f : Con F main_arg2) : Con F cc0_scratch2 := fun i => f (ix4 (0 : Fin 1) (i 1) (i 0) (i 2))

abbrev hdV (M : Memref sig .tc .vmem S8x4096x128 .f32) (off : Fin 3 → ℕ) (h : ∀ a, off a + S1x4096x128.size a ≤ S8x4096x128.size a) : Memref sig .tc .vmem S4096x128 .f32 :=
  (M.slice (Rect.unit (s := S8x4096x128) off S1x4096x128.size h) (fun _ => rfl)).squeeze S4096x128 squeezes_S1x4096x128_S4096x128
abbrev hdA (M : Memref sig .tc .hbm S1x4096x8x128 .f32) (off : Fin 4 → ℕ) (h : ∀ a, off a + S1x4096x1x128.size a ≤ S1x4096x8x128.size a) : Memref sig .tc .hbm S4096x128 .f32 :=
  (M.slice (Rect.unit (s := S1x4096x8x128) off S1x4096x1x128.size h) (fun _ => rfl)).squeeze S4096x128 squeezes_S1x4096x1x128_S4096x128

theorem set_headRect (b : Fin 8) {off : Fin 3 → ℕ} (hoff : off = ![b.val, 0, 0]) (h) :
    (Rect.unit (s := S8x4096x128) off S1x4096x128.size h).set = head b := by
  subst hoff
  ext i
  rw [Rect.mem_set_unit, mem_head]
  constructor
  · intro H
    have h0 : b.val ≤ (i 0).val ∧ (i 0).val < b.val + 1 := H 0
    omega
  · intro H a
    have h1 : (i 1).val < 4096 := (i 1).isLt
    have h2 : (i 2).val < 128 := (i 2).isLt
    fin_cases a
    · show b.val ≤ (i 0).val ∧ (i 0).val < b.val + 1
      omega
    · show 0 ≤ (i 1).val ∧ (i 1).val < 0 + 4096
      omega
    · show 0 ≤ (i 2).val ∧ (i 2).val < 0 + 128
      omega
theorem set_headARect (b : Fin 8) {off : Fin 4 → ℕ} (hoff : off = ![0, 0, b.val, 0]) (h) :
    (Rect.unit (s := S1x4096x8x128) off S1x4096x1x128.size h).set = headA b := by
  subst hoff
  ext i
  rw [Rect.mem_set_unit, mem_headA]
  constructor
  · intro H
    have h0 : b.val ≤ (i 2).val ∧ (i 2).val < b.val + 1 := H 2
    omega
  · intro H a
    have h0 : (i 0).val < 1 := (i 0).isLt
    have h1 : (i 1).val < 4096 := (i 1).isLt
    have h2 : (i 3).val < 128 := (i 3).isLt
    fin_cases a
    · show 0 ≤ (i 0).val ∧ (i 0).val < 0 + 1
      omega
    · show 0 ≤ (i 1).val ∧ (i 1).val < 0 + 4096
      omega
    · show b.val ≤ (i 2).val ∧ (i 2).val < b.val + 1
      omega
    · show 0 ≤ (i 3).val ∧ (i 3).val < 0 + 128
      omega

theorem emb_head (b : Fin 8) {off : Fin 3 → ℕ} (hoff : off = ![b.val, 0, 0]) (h) (x : S4096x128.Idx) :
    (Rect.unit (s := S8x4096x128) off S1x4096x128.size h).emb (Shape.reshapeEquiv squeezes_S1x4096x128_S4096x128.numel_eq x) = ix3 b (x 0) (x 1) := by
  subst hoff
  rw [Shape.reshapeEquiv_cons_one]
  funext a
  fin_cases a
  · exact Fin.ext (show b.val + 1 * 0 = b.val by omega)
  · exact Fin.ext (show 0 + 1 * (x 0).val = (x 0).val by omega)
  · exact Fin.ext (show 0 + 1 * (x 1).val = (x 1).val by omega)
/-- Two unit axes put in, read at an index. -/
theorem reshape_1a1b {a b : ℕ} (h : (⟨2, ![a, b]⟩ : Shape).numel = (⟨4, ![1, a, 1, b]⟩ : Shape).numel) (x : Fin a) (y : Fin b) :
    Shape.reshapeEquiv h (ix2 x y) = ix4 (0 : Fin 1) x (0 : Fin 1) y :=
  Shape.reshapeEquiv_eq_of_rowMajor h (by
    rw [Shape.rowMajor_val_four, Shape.rowMajor_val_two]
    show (((0 : ℕ) * a + x.val) * 1 + 0) * b + y.val = x.val * b + y.val
    rw [Nat.zero_mul, Nat.zero_add, Nat.mul_one, Nat.add_zero])
theorem emb_headA (b : Fin 8) {off : Fin 4 → ℕ} (hoff : off = ![0, 0, b.val, 0]) (h) (x : S4096x128.Idx) :
    (Rect.unit (s := S1x4096x8x128) off S1x4096x1x128.size h).emb (Shape.reshapeEquiv squeezes_S1x4096x1x128_S4096x128.numel_eq x) = ix4 (0 : Fin 1) (x 0) b (x 1) := by
  subst hoff
  have e : Shape.reshapeEquiv squeezes_S1x4096x1x128_S4096x128.numel_eq x = ix4 (0 : Fin 1) (x 0) (0 : Fin 1) (x 1) :=
    (congrArg (Shape.reshapeEquiv _) (ValueIdx.eq_ix2 (n0 := 4096) (n1 := 128) x)).trans (reshape_1a1b _ (x 0) (x 1))
  rw [e]
  funext a
  fin_cases a
  · exact Fin.ext (show 0 + 1 * 0 = 0 by omega)
  · exact Fin.ext (show 0 + 1 * (x 0).val = (x 0).val by omega)
  · exact Fin.ext (show b.val + 1 * 0 = b.val by omega)
  · exact Fin.ext (show 0 + 1 * (x 1).val = (x 1).val by omega)

/-! ## The rules at any buffer -/

variable (W : Dev nD → WC F) (κ : Dev nD × CK → ℕ) (c : Dev nD)

/-- The start of a local copy whose result on the set held is named. -/
theorem wp_locStart {α : Type} {Q : α → sProp 𝕄} {k : PUnit → Prog (TpuEff nD τ sig (Elt F) Λ₀ .tc) α} {sp sp' : Space} {s : Shape} {e : EltTy} {src : Memref sig .tc sp s e} {dst : Memref sig .tc sp' s e} (sm : DmaSem sig)
    {hsrc : src.view.WordExact} {hdst : dst.view.WordExact} {hsem : DmaTarget.Typed (nD := nD) (p := (Proc.tc : Proc τ)) sp (.dma sm) (.here dst)}
    (hN0 : 0 < dst.view.dmaCredit) {Ss : Finset (Idx (src.view.loc (c : Thread nD τ)))} {Sd : Finset (Idx (dst.view.loc (c : Thread nD τ)))}
    (hSs : src.view.set = Ss) (hSd : dst.view.set = Sd) (fs : Buf (Elt F) (src.view.loc (c : Thread nD τ))) (g : Buf (Elt F) (dst.view.loc (c : Thread nD τ)))
    (hg : ∀ fd : Buf (Elt F) (dst.view.loc (c : Thread nD τ)), ∀ i ∈ Sd, dst.view.write (Elt F) fd (src.view.read (Elt F) fs) Finset.univ i = g i) :
    iprop((src.view.loc (c : Thread nD τ) ↦[Ss]{fullShare} fs) ∗ (∃ fd, dst.view.loc (c : Thread nD τ) ↦[Sd]{fullShare} fd) ∗ semVal ((c : Thread nD τ), .dma sm) 0)
      ⊢ iprop((Flight EC (c : Thread nD τ) (.dma sm) () dst.view.dmaCredit iprop((dst.view.loc (c : Thread nD τ) ↦[Sd]{fullShare} g) ∗ (src.view.loc (c : Thread nD τ) ↦[Ss]{fullShare} fs)) -∗ wpB c (k ⟨⟩) Q)
          -∗ wpB c (.op (.enqueueDma src (.here dst) (.dma sm) hsrc hdst hsem) k) Q) := by
  subst hSs
  iintro ⟨Hs, ⟨%fd, Hd⟩, Hv⟩ Hk
  iapply (Transfers.wp_dmaLocal EC 𝒱₀ (c : Thread nD τ) none (sm := .dma sm) () dst.view.dmaCredit rfl hN0 (Sd := Sd) hSd.subset (fd := fd)) $$ [Hs Hd Hv]
  · isplitl [Hs]; · iexact Hs
    isplitl [Hd]; · iexact Hd
    iexact Hv
  iintro HF
  iapply Hk
  iapply (Flight_mono EC (c : Thread nD τ) (sep_mono (Entails.of_eq (pointsTo_congr (hg fd))) .rfl)) $$ HF

/-- The wait for one. -/
theorem wp_locWait {α : Type} {Q : α → sProp 𝕄} {k : PUnit → Prog (TpuEff nD τ sig (Elt F) Λ₀ .tc) α} {sp sp' : Space} {s s' : Shape} {e e' : EltTy} {src : Memref sig .tc sp' s' e'} {dst : Memref sig .tc sp s e} (sm : DmaSem sig)
    {hsrc : src.view.WordExact} {hdst : dst.view.WordExact} (hsm : sm.val < 20) (l : List (Fin 3 × Fin 7)) (hl : ∀ x ∈ l, 0 < kLv (some (oKind x)))
    {Nn : ℕ} (hN : dst.view.dmaCredit = Nn) (D : sProp 𝕄) :
    iprop(recs W κ ∗ ow c l ∗ Flight EC (c : Thread nD τ) (.dma sm) () Nn D)
      ⊢ iprop(((ow c l ∗ D ∗ semVal ((c : Thread nD τ), .dma sm) 0) -∗ wpB c (k ⟨⟩) Q)
          -∗ wpB c (.op (.waitDma2 sm src dst hsrc hdst) k) Q) := by
  unfold ow
  iintro ⟨#HR, ⟨%Wt, HO⟩, HF⟩ Hk
  ihave Hl := (recs_lev W κ) $$ HR
  ihave HM := (mayWait c (.dma sm) l (by rw [kind_local sm hsm]; exact hl)) $$ Hl
  iapply (Transfers.wp_waitLocalO EC 𝒱₀ (c : Thread nD τ) none () hN (D := D) (O := owedOf c l) (W := Wt)) $$ [HF HO HM]
  · isplitl [HF]; · iexact HF
    isplitl [HO]; · iexact HO
    iexact HM
  iintro ⟨HD, Hv, HO⟩
  iapply Hk
  isplitl [HO]; · iexists _; iexact HO
  isplitl [HD]; · iexact HD
  iexact Hv

/-! ## Keys and values, head by head -/

def smK (h : Fin 8) : DmaSem sig := ⟨4 + h.val, by have := h.isLt; show _ < 48; omega⟩
def smV (h : Fin 8) : DmaSem sig := ⟨12 + h.val, by have := h.isLt; show _ < 48; omega⟩
def NK : ℕ := RefSig.tileCredit S4096x128 .f32
theorem NK_pos : 0 < NK := RefSig.tileCredit_pos _ _ (by decide)

theorem set_hdK (b : Fin 8) {off} (hoff : off = ![b.val, 0, 0]) (h) : (hdV kM off h).view.set = head b :=
  ((View.set_reshape _ _).trans (View.set_slice_whole _ _)).trans (set_headRect b hoff h)
theorem set_hdVv (b : Fin 8) {off} (hoff : off = ![b.val, 0, 0]) (h) : (hdV vM off h).view.set = head b :=
  ((View.set_reshape _ _).trans (View.set_slice_whole _ _)).trans (set_headRect b hoff h)
theorem set_hdA2 (b : Fin 8) {off} (hoff : off = ![0, 0, b.val, 0]) (h) : (hdA a2M off h).view.set = headA b :=
  ((View.set_reshape _ _).trans (View.set_slice_whole _ _)).trans (set_headARect b hoff h)
theorem set_hdA3 (b : Fin 8) {off} (hoff : off = ![0, 0, b.val, 0]) (h) : (hdA a3M off h).view.set = headA b :=
  ((View.set_reshape _ _).trans (View.set_slice_whole _ _)).trans (set_headARect b hoff h)

/-- What the copy of a head of keys leaves there. -/
theorem landedK (b : Fin 8) {off} (hoff : off = ![b.val, 0, 0]) (h) {off'} (hoff' : off' = ![0, 0, b.val, 0]) (h') (f : Con F main_arg2) (fd : Con F cc0_scratch2) :
    ∀ i ∈ head b, (hdV kM off h).view.write (Elt F) fd ((hdA a2M off' h').view.read (Elt F) f) Finset.univ i = kvT f i := by
  intro i hi
  obtain ⟨x, hx⟩ : ∃ x, (hdV kM off h).view.emb x = i := by
    rw [← set_hdK b hoff h] at hi
    obtain ⟨x, -, e⟩ := Finset.mem_map.mp hi
    exact ⟨x, e⟩
  subst hx
  rw [View.write_emb_of_mem _ _ (Finset.mem_univ _), View.read_apply]
  have e1 : (hdV kM off h).view.emb x = ix3 b (x 0) (x 1) := emb_head b hoff h x
  have e2 : (hdA a2M off' h').view.emb x = ix4 (0 : Fin 1) (x 0) b (x 1) := emb_headA b hoff' h' x
  rw [e1, e2]
  rfl
/-- What the copy of a head of values leaves there. -/
theorem landedV (b : Fin 8) {off} (hoff : off = ![b.val, 0, 0]) (h) {off'} (hoff' : off' = ![0, 0, b.val, 0]) (h') (f : Con F main_arg3) (fd : Con F cc0_scratch3) :
    ∀ i ∈ head b, (hdV vM off h).view.write (Elt F) fd ((hdA a3M off' h').view.read (Elt F) f) Finset.univ i = kvT f i :=
  landedK b hoff h hoff' h' f fd

/-- Before, during and after the copy of a head of keys. -/
def newK (f : Con F main_arg2) (b : Fin 8) : sProp 𝕄 :=
  iprop((loc c main_arg2 ↦[headA b]{fullShare} f) ∗ (∃ g, loc c cc0_scratch2 ↦[head b]{fullShare} g) ∗ semVal ((c : Thread nD τ), .dma (smK b)) 0)
def flyK (f : Con F main_arg2) (b : Fin 8) : sProp 𝕄 :=
  Flight EC (c : Thread nD τ) (.dma (smK b)) () NK iprop((loc c cc0_scratch2 ↦[head b]{fullShare} kvT f) ∗ (loc c main_arg2 ↦[headA b]{fullShare} f))
def hasK (f : Con F main_arg2) (b : Fin 8) : sProp 𝕄 := loc c cc0_scratch2 ↦[head b]{fullShare} kvT f
def endK (f : Con F main_arg2) (b : Fin 8) : sProp 𝕄 :=
  iprop((loc c main_arg2 ↦[headA b]{fullShare} f) ∗ semVal ((c : Thread nD τ), .dma (smK b)) 0)
/-- The same for values. -/
def newV (f : Con F main_arg3) (b : Fin 8) : sProp 𝕄 :=
  iprop((loc c main_arg3 ↦[headA b]{fullShare} f) ∗ (∃ g, loc c cc0_scratch3 ↦[head b]{fullShare} g) ∗ semVal ((c : Thread nD τ), .dma (smV b)) 0)
def flyV (f : Con F main_arg3) (b : Fin 8) : sProp 𝕄 :=
  Flight EC (c : Thread nD τ) (.dma (smV b)) () NK iprop((loc c cc0_scratch3 ↦[head b]{fullShare} kvT f) ∗ (loc c main_arg3 ↦[headA b]{fullShare} f))
def hasV (f : Con F main_arg3) (b : Fin 8) : sProp 𝕄 := loc c cc0_scratch3 ↦[head b]{fullShare} kvT f
def endV (f : Con F main_arg3) (b : Fin 8) : sProp 𝕄 :=
  iprop((loc c main_arg3 ↦[headA b]{fullShare} f) ∗ semVal ((c : Thread nD τ), .dma (smV b)) 0)

theorem wp_startK {α : Type} {Q : α → sProp 𝕄} {k : PUnit → Prog (TpuEff nD τ sig (Elt F) Λ₀ .tc) α} (f : Con F main_arg2) (b : Fin 8)
    {off} (hoff : off = ![b.val, 0, 0]) {h} {off'} (hoff' : off' = ![0, 0, b.val, 0]) {h'} {s : DmaSem sig} (hs : s = smK b)
    {hsrc : (hdA a2M off' h').view.WordExact} {hdst : (hdV kM off h).view.WordExact} {hsem : DmaTarget.Typed (nD := nD) (p := (Proc.tc : Proc τ)) .hbm (.dma s) (.here (hdV kM off h))} :
    newK c f b ⊢ iprop((flyK c f b -∗ wpB c (k ⟨⟩) Q) -∗ wpB c (.op (.enqueueDma (hdA a2M off' h') (.here (hdV kM off h)) (.dma s) hsrc hdst hsem) k) Q) := by
  subst hs
  exact wp_locStart c (smK b) NK_pos (set_hdA2 b hoff' h') (set_hdK b hoff h) f (kvT f) (landedK b hoff h hoff' h' f)
theorem wp_startV {α : Type} {Q : α → sProp 𝕄} {k : PUnit → Prog (TpuEff nD τ sig (Elt F) Λ₀ .tc) α} (f : Con F main_arg3) (b : Fin 8)
    {off} (hoff : off = ![b.val, 0, 0]) {h} {off'} (hoff' : off' = ![0, 0, b.val, 0]) {h'} {s : DmaSem sig} (hs : s = smV b)
    {hsrc : (hdA a3M off' h').view.WordExact} {hdst : (hdV vM off h).view.WordExact} {hsem : DmaTarget.Typed (nD := nD) (p := (Proc.tc : Proc τ)) .hbm (.dma s) (.here (hdV vM off h))} :
    newV c f b ⊢ iprop((flyV c f b -∗ wpB c (k ⟨⟩) Q) -∗ wpB c (.op (.enqueueDma (hdA a3M off' h') (.here (hdV vM off h)) (.dma s) hsrc hdst hsem) k) Q) := by
  subst hs
  exact wp_locStart c (smV b) NK_pos (set_hdA3 b hoff' h') (set_hdVv b hoff h) f (kvT f) (landedV b hoff h hoff' h' f)

theorem wp_waitK {α : Type} {Q : α → sProp 𝕄} {k : PUnit → Prog (TpuEff nD τ sig (Elt F) Λ₀ .tc) α} (f : Con F main_arg2) (b : Fin 8)
    (l : List (Fin 3 × Fin 7)) (hl : ∀ x ∈ l, 0 < kLv (some (oKind x))) {s : DmaSem sig} (hs : s = smK b) {sp sp' : Space} {s' : Shape} {e' : EltTy} {src : Memref sig .tc sp' s' e'} {dst : Memref sig .tc sp S4096x128 .f32}
    {hsrc : src.view.WordExact} {hdst : dst.view.WordExact} :
    iprop(recs W κ ∗ ow c l ∗ flyK c f b) ⊢ iprop(((ow c l ∗ hasK c f b ∗ endK c f b) -∗ wpB c (k ⟨⟩) Q) -∗ wpB c (.op (.waitDma2 s src dst hsrc hdst) k) Q) := by
  subst hs
  unfold flyK hasK endK
  iintro H Hk
  iapply (wp_locWait W κ c (smK b) (show 4 + b.val < 20 by have := b.isLt; omega) l hl (Nn := NK) rfl _) $$ H
  iintro ⟨HO, ⟨H1, H2⟩, Hv⟩
  iapply Hk
  isplitl [HO]; · iexact HO
  isplitl [H1]; · iexact H1
  isplitl [H2]; · iexact H2
  iexact Hv
theorem wp_waitV {α : Type} {Q : α → sProp 𝕄} {k : PUnit → Prog (TpuEff nD τ sig (Elt F) Λ₀ .tc) α} (f : Con F main_arg3) (b : Fin 8)
    (l : List (Fin 3 × Fin 7)) (hl : ∀ x ∈ l, 0 < kLv (some (oKind x))) {s : DmaSem sig} (hs : s = smV b) {sp sp' : Space} {s' : Shape} {e' : EltTy} {src : Memref sig .tc sp' s' e'} {dst : Memref sig .tc sp S4096x128 .f32}
    {hsrc : src.view.WordExact} {hdst : dst.view.WordExact} :
    iprop(recs W κ ∗ ow c l ∗ flyV c f b) ⊢ iprop(((ow c l ∗ hasV c f b ∗ endV c f b) -∗ wpB c (k ⟨⟩) Q) -∗ wpB c (.op (.waitDma2 s src dst hsrc hdst) k) Q) := by
  subst hs
  unfold flyV hasV endV
  iintro H Hk
  iapply (wp_locWait W κ c (smV b) (show 12 + b.val < 20 by have := b.isLt; omega) l hl (Nn := NK) rfl _) $$ H
  iintro ⟨HO, ⟨H1, H2⟩, Hv⟩
  iapply Hk
  isplitl [HO]; · iexact HO
  isplitl [H1]; · iexact H1
  isplitl [H2]; · iexact H2
  iexact Hv

/-- A load of one head. -/
theorem inbK (b : Fin 8) : ∀ a, (![b.val, 0, 0] : Fin 3 → ℕ) a + S1x4096x128.size a ≤ S8x4096x128.size a := by revert b; decide
def ldH (f : Con F main_arg2) (b : Fin 8) : Vec F S1x4096x128 .f32 :=
  kM.view.readAt (Elt F) (Rect.unit (s := S8x4096x128) ![b.val, 0, 0] S1x4096x128.size (inbK b)).toLoadRect (kvT f)

theorem wp_loadK {α : Type} {Q : α → sProp 𝕄} {k : Vec F S1x4096x128 .f32 → Prog (TpuEff nD τ sig (Elt F) Λ₀ .tc) α} (f : Con F main_arg2) (b : Fin 8)
    {off} (hoff : off = ![b.val, 0, 0]) {h} {hl : kM.view.LoadsAt (Rect.unit (s := S8x4096x128) off S1x4096x128.size h).toLoadRect} :
    hasK c f b ⊢ iprop((hasK c f b -∗ wpB c (k (ldH f b)) Q) -∗ wpB c (.op (.load kM (Rect.unit (s := S8x4096x128) off S1x4096x128.size h).toLoadRect hl) k) Q) := by
  subst hoff
  exact wp_load 𝒱₀ (c : Thread nD τ) none Set.univ (m := kM) (by
    rw [show kM.view.setOn _ = _ from Finset.map_refl]; exact (set_headRect b rfl h).subset)
theorem wp_loadV {α : Type} {Q : α → sProp 𝕄} {k : Vec F S1x4096x128 .f32 → Prog (TpuEff nD τ sig (Elt F) Λ₀ .tc) α} (f : Con F main_arg3) (b : Fin 8)
    {off} (hoff : off = ![b.val, 0, 0]) {h} {hl : vM.view.LoadsAt (Rect.unit (s := S8x4096x128) off S1x4096x128.size h).toLoadRect} :
    hasV c f b ⊢ iprop((hasV c f b -∗ wpB c (k (ldH f b)) Q) -∗ wpB c (.op (.load vM (Rect.unit (s := S8x4096x128) off S1x4096x128.size h).toLoadRect hl) k) Q) := by
  subst hoff
  exact wp_load 𝒱₀ (c : Thread nD τ) none Set.univ (m := vM) (by
    rw [show vM.view.setOn _ = _ from Finset.map_refl]; exact (set_headRect b rfl h).subset)

/-! ## The weights -/

abbrev a1V : Memref sig .tc .hbm S1024x1024 .f32 := a1M.slice (Rect.unit (s := S1024x8192) (k0_off1 c) S1024x1024.size (k0_off1_inb c)) (fun _ => rfl)
abbrev a4V : Memref sig .tc .hbm S1024x1024 .f32 := a4M.slice (Rect.unit (s := S8192x1024) (k0_off2 c) S1024x1024.size (k0_off2_inb c)) (fun _ => rfl)
/-- The columns of the query weights, the rows of the output weights, of one device. -/
def wqT (f : Con F main_arg1) : Con F cc0_scratch0 := (a1V c).view.read (Elt F) f
def woT (f : Con F main_arg4) : Con F cc0_scratch1 := (a4V c).view.read (Elt F) f

abbrev smQ : DmaSem sig := ⟨2, by decide⟩
abbrev smO : DmaSem sig := ⟨3, by decide⟩
def NQ : ℕ := RefSig.tileCredit S1024x1024 .f32
theorem NQ_pos : 0 < NQ := RefSig.tileCredit_pos _ _ (by decide)

def newQ (f : Con F main_arg1) : sProp 𝕄 :=
  iprop((loc c main_arg1 ↦[(a1V c).view.set]{fullShare} f) ∗ (∃ g, loc c cc0_scratch0 ↦{fullShare} g) ∗ semVal ((c : Thread nD τ), .dma smQ) 0)
def flyQ (f : Con F main_arg1) : sProp 𝕄 :=
  Flight EC (c : Thread nD τ) (.dma smQ) () NQ iprop((loc c cc0_scratch0 ↦{fullShare} wqT c f) ∗ (loc c main_arg1 ↦[(a1V c).view.set]{fullShare} f))
def hasQ (f : Con F main_arg1) : sProp 𝕄 := loc c cc0_scratch0 ↦{fullShare} wqT c f
def endQ (f : Con F main_arg1) : sProp 𝕄 := iprop((loc c main_arg1 ↦[(a1V c).view.set]{fullShare} f) ∗ semVal ((c : Thread nD τ), .dma smQ) 0)
def newO (f : Con F main_arg4) : sProp 𝕄 :=
  iprop((loc c main_arg4 ↦[(a4V c).view.set]{fullShare} f) ∗ (∃ g, loc c cc0_scratch1 ↦{fullShare} g) ∗ semVal ((c : Thread nD τ), .dma smO) 0)
def flyO (f : Con F main_arg4) : sProp 𝕄 :=
  Flight EC (c : Thread nD τ) (.dma smO) () NQ iprop((loc c cc0_scratch1 ↦{fullShare} woT c f) ∗ (loc c main_arg4 ↦[(a4V c).view.set]{fullShare} f))
def hasO (f : Con F main_arg4) : sProp 𝕄 := loc c cc0_scratch1 ↦{fullShare} woT c f
def endO (f : Con F main_arg4) : sProp 𝕄 := iprop((loc c main_arg4 ↦[(a4V c).view.set]{fullShare} f) ∗ semVal ((c : Thread nD τ), .dma smO) 0)

theorem wp_startQ {α : Type} {Q : α → sProp 𝕄} {k : PUnit → Prog (TpuEff nD τ sig (Elt F) Λ₀ .tc) α} (f : Con F main_arg1)
    {hsrc : (a1V c).view.WordExact} {hdst : wqM.view.WordExact} {hsem : DmaTarget.Typed (nD := nD) (p := (Proc.tc : Proc τ)) .hbm (.dma smQ) (.here wqM)} :
    newQ c f ⊢ iprop((flyQ c f -∗ wpB c (k ⟨⟩) Q) -∗ wpB c (.op (.enqueueDma (a1V c) (.here wqM) (.dma smQ) hsrc hdst hsem) k) Q) :=
  wp_locStart c smQ (src := a1V c) (dst := wqM) NQ_pos rfl (View.set_whole _) f (wqT c f) (fun fd i _ => by
    exact (View.write_emb_of_mem (v := wqM.view) fd _ (Finset.mem_univ i)))
theorem wp_startO {α : Type} {Q : α → sProp 𝕄} {k : PUnit → Prog (TpuEff nD τ sig (Elt F) Λ₀ .tc) α} (f : Con F main_arg4)
    {hsrc : (a4V c).view.WordExact} {hdst : woM.view.WordExact} {hsem : DmaTarget.Typed (nD := nD) (p := (Proc.tc : Proc τ)) .hbm (.dma smO) (.here woM)} :
    newO c f ⊢ iprop((flyO c f -∗ wpB c (k ⟨⟩) Q) -∗ wpB c (.op (.enqueueDma (a4V c) (.here woM) (.dma smO) hsrc hdst hsem) k) Q) :=
  wp_locStart c smO (src := a4V c) (dst := woM) NQ_pos rfl (View.set_whole _) f (woT c f) (fun fd i _ => by
    exact (View.write_emb_of_mem (v := woM.view) fd _ (Finset.mem_univ i)))

theorem wp_waitQ {α : Type} {Q : α → sProp 𝕄} {k : PUnit → Prog (TpuEff nD τ sig (Elt F) Λ₀ .tc) α} (f : Con F main_arg1)
    (l : List (Fin 3 × Fin 7)) (hl : ∀ x ∈ l, 0 < kLv (some (oKind x))) {sp sp' : Space} {s' : Shape} {e' : EltTy} {src : Memref sig .tc sp' s' e'} {dst : Memref sig .tc sp S1024x1024 .f32}
    {hsrc : src.view.WordExact} {hdst : dst.view.WordExact} :
    iprop(recs W κ ∗ ow c l ∗ flyQ c f) ⊢ iprop(((ow c l ∗ hasQ c f ∗ endQ c f) -∗ wpB c (k ⟨⟩) Q) -∗ wpB c (.op (.waitDma2 smQ src dst hsrc hdst) k) Q) := by
  unfold flyQ hasQ endQ
  iintro H Hk
  iapply (wp_locWait W κ c smQ (by decide) l hl (Nn := NQ) rfl _) $$ H
  iintro ⟨HO, ⟨H1, H2⟩, Hv⟩
  iapply Hk
  isplitl [HO]; · iexact HO
  isplitl [H1]; · iexact H1
  isplitl [H2]; · iexact H2
  iexact Hv
theorem wp_waitO {α : Type} {Q : α → sProp 𝕄} {k : PUnit → Prog (TpuEff nD τ sig (Elt F) Λ₀ .tc) α} (f : Con F main_arg4)
    (l : List (Fin 3 × Fin 7)) (hl : ∀ x ∈ l, 0 < kLv (some (oKind x))) {sp sp' : Space} {s' : Shape} {e' : EltTy} {src : Memref sig .tc sp' s' e'} {dst : Memref sig .tc sp S1024x1024 .f32}
    {hsrc : src.view.WordExact} {hdst : dst.view.WordExact} :
    iprop(recs W κ ∗ ow c l ∗ flyO c f) ⊢ iprop(((ow c l ∗ hasO c f ∗ endO c f) -∗ wpB c (k ⟨⟩) Q) -∗ wpB c (.op (.waitDma2 smO src dst hsrc hdst) k) Q) := by
  unfold flyO hasO endO
  iintro H Hk
  iapply (wp_locWait W κ c smO (by decide) l hl (Nn := NQ) rfl _) $$ H
  iintro ⟨HO, ⟨H1, H2⟩, Hv⟩
  iapply Hk
  isplitl [HO]; · iexact HO
  isplitl [H1]; · iexact H1
  isplitl [H2]; · iexact H2
  iexact Hv

end Cert.Attn
-- ==== Proof.Values.lean ====
/-
# The values the kernel computes

The kernel's arithmetic on one device, named step by step: the mask, the scaled queries, and the sum over the heads
after each head; then the partial sums `part I c`, which the exchange adds up. `onBufs` applies a piece of the body to
the buffers it is called on.
-/
module

public import proofs.«01_k».proof.Proof.Local

@[expose] public section

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight Flight_mono)
open Idealize.ShloMosaic.ValueIdx (ix2 ix3 ix4)

variable {F : FTy → Type} [FloatOps F]

local notation "𝕄" => MT nD τ sig Unit (Elt F) ℕ UU ℕ

/-- A piece of the body on the buffers of the launch. -/
abbrev onBufs {R : Type 1} (f : (arg0 : Memref sig .tc .vmem S1x256x1024 .f32) → (harg0 : arg0.IsWhole) → (arg1 : Memref sig .tc .hbm S1024x8192 .f32) → (harg1 : arg1.IsWhole) → (arg2 : Memref sig .tc .hbm S1x4096x8x128 .f32) → (harg2 : arg2.IsWhole) → (arg3 : Memref sig .tc .hbm S1x4096x8x128 .f32) → (harg3 : arg3.IsWhole) → (arg4 : Memref sig .tc .hbm S8192x1024 .f32) → (harg4 : arg4.IsWhole) → (arg5 : Memref sig .tc .vmem S1x256x1024 .f32) → (harg5 : arg5.IsWhole) → (arg6 : Memref sig .tc .vmem S1024x1024 .f32) → (harg6 : arg6.IsWhole) → (arg7 : Memref sig .tc .vmem S1024x1024 .f32) → (harg7 : arg7.IsWhole) → (arg8 : Memref sig .tc .vmem S8x4096x128 .f32) → (harg8 : arg8.IsWhole) → (arg9 : Memref sig .tc .vmem S8x4096x128 .f32) → (harg9 : arg9.IsWhole) → (arg10 : Memref sig .tc .vmem S256x1024 .bf16) → (harg10 : arg10.IsWhole) → (arg11 : Memref sig .tc .vmem S7x32x1024 .bf16) → (harg11 : arg11.IsWhole) → (arg12 : DmaSems sig S_) → (arg13 : DmaSems sig S_) → (arg14 : DmaSems sig S8) → (arg15 : DmaSems sig S8) → (arg16 : DmaSems sig S7) → (arg17 : DmaSems sig S7) → (arg18 : DmaSems sig S7) → (arg19 : DmaSems sig S7) → R) : R :=
  f (Memref.whole cc0_stg0_0) (Memref.isWhole_whole _) (Memref.whole main_arg1) (Memref.isWhole_whole _) (Memref.whole main_arg2) (Memref.isWhole_whole _)
    (Memref.whole main_arg3) (Memref.isWhole_whole _) (Memref.whole main_arg4) (Memref.isWhole_whole _) (Memref.whole cc0_stg1_0) (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5) (Memref.isWhole_whole _)
    cc0_scratch6 cc0_scratch7 cc0_scratch8 cc0_scratch9 cc0_scratch10 cc0_scratch11 cc0_scratch12 cc0_scratch13

/-- What one device computes from: its copy of the input, and the four arguments it copies from. -/
structure Inp (F : FTy → Type) where
  x : Con F cc0_stg0_0
  wq : Con F main_arg1
  k : Con F main_arg2
  v : Con F main_arg3
  wo : Con F main_arg4

theorem inbO (b : Fin 8) : ∀ a, (![128 * b.val, 0] : Fin 2 → ℕ) a + S128x1024.size a ≤ S1024x1024.size a := by revert b; decide

variable (I : Inp F) (c : Dev nD)

/-- A load of the rows of the output weights that belong to one head. -/
def ldO (b : Fin 8) : Vec F S128x1024 .f32 :=
  woM.view.readAt (Elt F) (Rect.unit (s := S1024x1024) ![128 * b.val, 0] S128x1024.size (inbO b)).toLoadRect (woT c I.wo)

theorem wp_loadO {α : Type} {Q : α → sProp 𝕄} {k : Vec F S128x1024 .f32 → Prog (TpuEff nD τ sig (Elt F) Λ₀ .tc) α} (b : Fin 8)
    {off} (hoff : off = ![128 * b.val, 0]) {h} {hl : woM.view.LoadsAt (Rect.unit (s := S1024x1024) off S128x1024.size h).toLoadRect} :
    hasO c I.wo ⊢ iprop((hasO c I.wo -∗ wpB c (k (ldO I c b)) Q) -∗ wpB c (.op (.load woM (Rect.unit (s := S1024x1024) off S128x1024.size h).toLoadRect hl) k) Q) := by
  subst hoff
  exact wp_load 𝒱₀ (c : Thread nD τ) none Set.univ (m := woM) (Finset.subset_univ _)

theorem hz2 : (![0, 0] : Fin 2 → ℕ) = fun _ => 0 := funext fun a => by fin_cases a <;> rfl
theorem hz3 : (![0, 0, 0] : Fin 3 → ℕ) = fun _ => 0 := funext fun a => by fin_cases a <;> rfl

/-- The staged input of a device. -/
abbrev xM : Memref sig .tc .vmem S1x256x1024 .f32 := Memref.whole cc0_stg0_0
abbrev hasX (I : Inp F) (c : Dev nD) : sProp 𝕄 := loc c cc0_stg0_0 ↦{fullShare} I.x

/-- The load of the staged input, and that of the query weights. -/
def ldX : Vec F S1x256x1024 .f32 :=
  xM.view.readAt (Elt F) (Rect.unit (s := S1x256x1024) ![0, 0, 0] S1x256x1024.size inb_S1x256x1024_S1x256x1024_0_0_0).toLoadRect I.x
def ldQ : Vec F S1024x1024 .f32 :=
  wqM.view.readAt (Elt F) (Rect.unit (s := S1024x1024) ![0, 0] S1024x1024.size inb_S1024x1024_S1024x1024_0_0).toLoadRect (wqT c I.wq)

theorem wp_loadX {α : Type} {Q : α → sProp 𝕄} {k : Vec F S1x256x1024 .f32 → Prog (TpuEff nD τ sig (Elt F) Λ₀ .tc) α} {h}
    {hl : xM.view.LoadsAt (Rect.unit (s := S1x256x1024) ![0, 0, 0] S1x256x1024.size h).toLoadRect} :
    hasX I c ⊢ iprop((hasX I c -∗ wpB c (k (ldX I)) Q) -∗ wpB c (.op (.load xM (Rect.unit (s := S1x256x1024) ![0, 0, 0] S1x256x1024.size h).toLoadRect hl) k) Q) :=
  wp_load 𝒱₀ (c : Thread nD τ) none Set.univ (m := xM) (Finset.subset_univ _)
theorem wp_loadQ {α : Type} {Q : α → sProp 𝕄} {k : Vec F S1024x1024 .f32 → Prog (TpuEff nD τ sig (Elt F) Λ₀ .tc) α} {h}
    {hl : wqM.view.LoadsAt (Rect.unit (s := S1024x1024) ![0, 0] S1024x1024.size h).toLoadRect} :
    hasQ c I.wq ⊢ iprop((hasQ c I.wq -∗ wpB c (k (ldQ I c)) Q) -∗ wpB c (.op (.load wqM (Rect.unit (s := S1024x1024) ![0, 0] S1024x1024.size h).toLoadRect hl) k) Q) :=
  wp_load 𝒱₀ (c : Thread nD τ) none Set.univ (m := wqM) (Finset.subset_univ _)

theorem ldX_eq : ldX I = I.x := Memref.readAt_unit_zero (Elt F) cc0_stg0_0 hz3 _ I.x
theorem ldQ_eq : ldQ I c = wqT c I.wq := Memref.readAt_unit_zero (Elt F) cc0_scratch0 hz2 _ (wqT c I.wq)

/-- The mask, the scale, the filler of masked scores. -/
def mask : IVec S256x4096 1 :=
  k0_pay5 k0_pay2 (iota .tc S256x4096 32 [1] iota_S256x4096_d1_w32) 64#32 k0_pay3 k0_pay4 (Scalar.extui (Scalar.cmpi .sgt 64#32 0#32)) (Scalar.cmpi .slt 64#32 0#32)
def cScale : F .f32 := Scalar.ofBits .f32 0x3DB504F3#32
def cFill : F .f32 := Scalar.ofBits .f32 0xCE6E6B28#32
/-- The queries, and the scaled queries. -/
def xq : FVec F S256x1024 .f32 := k0_pay6 (ldX I) (ldQ I c)
def qs : FVec F S256x1024 .f32 := k0_pay7 (xq I c) cScale

/-- The sum over the heads, after each head. -/
def o0 : FVec F S256x1024 .f32 :=
  k0_pay12 k0_pay8 (k0_pay9 mask (xq I c) cScale (ldH I.k 0)) (k0_pay10 mask (xq I c) cScale (ldH I.k 0)) (k0_pay11 (ldH I.v 0))
    (constant S256x128 .f32 0x00000000#32) (ldO I c 0)
def o1 : FVec F S256x1024 .f32 := k0_pay15 (o0 I c) (k0_pay13 mask (qs I c) (ldH I.k 1)) (k0_pay14 mask (qs I c) (ldH I.k 1)) (ldH I.v 1) (ldO I c 1)
def o2 : FVec F S256x1024 .f32 := k0_pay18 (o1 I c) (k0_pay16 mask (qs I c) (ldH I.k 2)) (k0_pay17 mask (qs I c) (ldH I.k 2)) (ldH I.v 2) (ldO I c 2)
def o3 : FVec F S256x1024 .f32 := k0_pay21 (o2 I c) (k0_pay19 mask (qs I c) (ldH I.k 3)) (k0_pay20 mask (qs I c) (ldH I.k 3)) (ldH I.v 3) (ldO I c 3)
def o4 : FVec F S256x1024 .f32 := k0_pay24 (o3 I c) (k0_pay22 mask (qs I c) (ldH I.k 4)) (k0_pay23 mask (qs I c) (ldH I.k 4)) (ldH I.v 4) (ldO I c 4)
def o5 : FVec F S256x1024 .f32 := k0_pay26 (o4 I c) (k0_pay25 mask (qs I c) (ldH I.k 5)) (ldH I.v 5) (ldO I c 5)
def o6 : FVec F S256x1024 .f32 := k0_pay28 (o5 I c) (k0_pay27 mask (qs I c) (ldH I.k 6)) (ldH I.v 6) (ldO I c 6)
/-- The partial sums of one device. -/
def part : WC F := k0_pay30 mask (o6 I c) (k0_pay29 (qs I c) (ldH I.k 7)) cFill (ldH I.v 7) (ldO I c 7)

end Cert.Attn
-- ==== Proof.Body1.lean ====
/-
# The body, first half

The body is printed in pieces; here each piece up to the first scatter send is run, one rule per effect in program
order. A theorem takes what its piece uses, and gives back what it leaves, with the piece's results.
-/
module

public import proofs.«01_k».proof.Proof.Values

@[expose] public section

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight Flight_mono)
open Idealize.ShloMosaic.ValueIdx (ix2 ix3 ix4)

variable {F : FTy → Type} [FloatOps F]

local notation "𝕄" => MT nD τ sig Unit (Elt F) ℕ UU ℕ

/-- A rule on a conjunction, its parts taken one by one. -/
theorem cur2 {A B R : sProp 𝕄} (h : iprop(A ∗ B) ⊢ R) : A ⊢ iprop(B -∗ R) := by
  iintro HA HB; iapply h; isplitl [HA] <;> iassumption
theorem cur3 {A B C R : sProp 𝕄} (h : iprop(A ∗ B ∗ C) ⊢ R) : A ⊢ iprop(B -∗ C -∗ R) := by
  iintro HA HB HC; iapply h; iframe HA HB; iexact HC
theorem cur4 {A B C D R : sProp 𝕄} (h : iprop(A ∗ B ∗ C ∗ D) ⊢ R) : A ⊢ iprop(B -∗ C -∗ D -∗ R) := by
  iintro HA HB HC HD; iapply h; iframe HA HB HC; iexact HD
theorem cur5 {A B C D E' R : sProp 𝕄} (h : iprop(A ∗ B ∗ C ∗ D ∗ E') ⊢ R) : A ⊢ iprop(B -∗ C -∗ D -∗ E' -∗ R) := by
  iintro HA HB HC HD HE; iapply h; iframe HA HB HC HD; iexact HE
theorem cur6 {A B C D E' G R : sProp 𝕄} (h : iprop(A ∗ B ∗ C ∗ D ∗ E' ∗ G) ⊢ R) : A ⊢ iprop(B -∗ C -∗ D -∗ E' -∗ G -∗ R) := by
  iintro HA HB HC HD HE HG; iapply h; iframe HA HB HC HD HE; iexact HG

theorem wpB_ret (c : Dev nD) {α : Type} {Q : α → sProp 𝕄} (a : α) : Q a ⊢ wpB c (.ret a) Q := by
  show _ ⊢ wp frame (wpE (defs₀ (F := F)) 𝒱₀ (c : Thread nD τ) none) Set.univ (.ret a) Q
  rw [wp_ret]
  iintro H; imodintro; iexact H

/-- What a barrier signal hands over: the right to send it, and the slot its receiver will write. -/
abbrev sigR (c : Dev nD) (j : Fin 7) : sProp 𝕄 := iprop(dutyTok ER (barC (peer c j)) 0 j ∗ ∃ f, sPts c j f)
variable (W : Dev nD → WC F) (κ : Dev nD × CK → ℕ) (I : Inp F) (c : Dev nD)

/-- The device learns its number; the words it computes from it are used only as printed. -/
theorem part1 {Q : _ → sProp 𝕄} :
    iprop(∀ w1 w2 w3 w4 w5 w6 w7 w8 w9, Q ⟨c, w1, w2, w3, w4, w5, w6, w7, w8, w9⟩) ⊢ wpB c (onBufs (k0_part1 (F := F))) Q := by
  rw [k0_part1_eq_skeleton]; unfold k0_part1_skel wpB
  simp only [Prog.lift, Prog.bind_op, Prog.bind_ret, Prog.pure_eq_ret, wp_deviceId]
  iintro Hk
  iapply (wpB_ret c)
  iapply Hk

/-- The copies of the weights and of the first head start. -/
theorem part2 (w1 w2 w3 w4 : BitVec 32) {Q : _ → sProp 𝕄} :
    newQ c I.wq ⊢ iprop(newO c I.wo -∗ newK c I.k 0 -∗ newV c I.v 0
      -∗ ((flyQ c I.wq ∗ flyO c I.wo ∗ flyK c I.k 0 ∗ flyV c I.v 0) -∗ ∀ r, Q r)
      -∗ wpB c (onBufs (k0_part2 (F := F)) c w1 w2 w3 w4) Q) := by
  rw [k0_part2_eq_skeleton]; unfold k0_part2_skel
  simp only [Prog.lift, Prog.bind_op, Prog.bind_ret, Prog.pure_eq_ret]
  iintro HQ HO HK HV Hk
  iapply (wp_startQ c I.wq) $$ HQ; iintro HQ
  iapply (wp_startO c I.wo) $$ HO; iintro HO
  iapply (wp_startK c I.k 0 rfl rfl rfl) $$ HK; iintro HK
  iapply (wp_startV c I.v 0 rfl rfl rfl) $$ HV; iintro HV
  iapply (wpB_ret c)
  iapply Hk $$ [HQ HO HK HV]
  iframe HQ HO HK; iexact HV

/-- The copies of two more heads start. -/
theorem part3 {Q : _ → sProp 𝕄} :
    newK c I.k 1 ⊢ iprop(newV c I.v 1 -∗ newK c I.k 2 -∗ newV c I.v 2
      -∗ ((flyK c I.k 1 ∗ flyV c I.v 1 ∗ flyK c I.k 2 ∗ flyV c I.v 2) -∗ Q ⟨⟩)
      -∗ wpB c (onBufs (k0_part3 (F := F))) Q) := by
  rw [k0_part3_eq_skeleton]; unfold k0_part3_skel
  simp only [Prog.lift, Prog.bind_op, Prog.bind_ret, Prog.pure_eq_ret]
  iintro HQ HO HK HV Hk
  iapply (wp_startK c I.k 1 rfl rfl rfl) $$ HQ; iintro HQ
  iapply (wp_startV c I.v 1 rfl rfl rfl) $$ HO; iintro HO
  iapply (wp_startK c I.k 2 rfl rfl rfl) $$ HK; iintro HK
  iapply (wp_startV c I.v 2 rfl rfl rfl) $$ HV; iintro HV
  iapply (wpB_ret c)
  iapply Hk $$ [HQ HO HK HV]
  iframe HQ HO HK; iexact HV

/-- The copies of two more heads start. -/
theorem part4 {Q : _ → sProp 𝕄} :
    newK c I.k 3 ⊢ iprop(newV c I.v 3 -∗ newK c I.k 4 -∗ newV c I.v 4
      -∗ ((flyK c I.k 3 ∗ flyV c I.v 3 ∗ flyK c I.k 4 ∗ flyV c I.v 4) -∗ Q ⟨⟩)
      -∗ wpB c (onBufs (k0_part4 (F := F))) Q) := by
  rw [k0_part4_eq_skeleton]; unfold k0_part4_skel
  simp only [Prog.lift, Prog.bind_op, Prog.bind_ret, Prog.pure_eq_ret]
  iintro HQ HO HK HV Hk
  iapply (wp_startK c I.k 3 rfl rfl rfl) $$ HQ; iintro HQ
  iapply (wp_startV c I.v 3 rfl rfl rfl) $$ HO; iintro HO
  iapply (wp_startK c I.k 4 rfl rfl rfl) $$ HK; iintro HK
  iapply (wp_startV c I.v 4 rfl rfl rfl) $$ HV; iintro HV
  iapply (wpB_ret c)
  iapply Hk $$ [HQ HO HK HV]
  iframe HQ HO HK; iexact HV

/-- The copies of two more heads start. -/
theorem part5 {Q : _ → sProp 𝕄} :
    newK c I.k 5 ⊢ iprop(newV c I.v 5 -∗ newK c I.k 6 -∗ newV c I.v 6
      -∗ ((flyK c I.k 5 ∗ flyV c I.v 5 ∗ flyK c I.k 6 ∗ flyV c I.v 6) -∗ Q ⟨⟩)
      -∗ wpB c (onBufs (k0_part5 (F := F))) Q) := by
  rw [k0_part5_eq_skeleton]; unfold k0_part5_skel
  simp only [Prog.lift, Prog.bind_op, Prog.bind_ret, Prog.pure_eq_ret]
  iintro HQ HO HK HV Hk
  iapply (wp_startK c I.k 5 rfl rfl rfl) $$ HQ; iintro HQ
  iapply (wp_startV c I.v 5 rfl rfl rfl) $$ HO; iintro HO
  iapply (wp_startK c I.k 6 rfl rfl rfl) $$ HK; iintro HK
  iapply (wp_startV c I.v 6 rfl rfl rfl) $$ HV; iintro HV
  iapply (wpB_ret c)
  iapply Hk $$ [HQ HO HK HV]
  iframe HQ HO HK; iexact HV

/-- The copies of the last head start; five peers are signalled. -/
theorem part6 (l : List (Fin 3 × Fin 7)) (w1 w2 w3 w4 w5 w6 : BitVec 32) {Q : _ → sProp 𝕄} :
    recs W κ ⊢ iprop(ow c ((0, 0) :: (0, 1) :: (0, 2) :: (0, 3) :: (0, 4) :: l) -∗ newK c I.k 7 -∗ newV c I.v 7
      -∗ sigR c 0 -∗ sigR c 1 -∗ sigR c 2 -∗ sigR c 3 -∗ sigR c 4
      -∗ ((ow c l ∗ flyK c I.k 7 ∗ flyV c I.v 7) -∗ Q (SemArray.scalar (sig.barrier 0 rfl)))
      -∗ wpB c (onBufs (k0_part6 (F := F)) c w1 w2 w3 w4 w5 w6) Q) := by
  rw [k0_part6_eq_skeleton]; unfold k0_part6_skel
  simp only [semSignalWord, Prog.lift, Prog.bind_op, Prog.bind_ret, Prog.pure_eq_ret]
  iintro #HR HO HK HV H0 H1 H2 H3 H4 Hk
  iapply (wp_startK c I.k 7 rfl rfl rfl) $$ HK; iintro HK
  iapply (wp_startV c I.v 7 rfl rfl rfl) $$ HV; iintro HV
  iapply (cur3 (wp_barSig W κ c 0 _ (dev1_eq c))) $$ HR HO H0; iintro HO
  iapply (cur3 (wp_barSig W κ c 1 _ (dev2_eq c))) $$ HR HO H1; iintro HO
  iapply (cur3 (wp_barSig W κ c 2 _ (dev3_eq c))) $$ HR HO H2; iintro HO
  iapply (cur3 (wp_barSig W κ c 3 _ (dev4_eq c))) $$ HR HO H3; iintro HO
  iapply (cur3 (wp_barSig W κ c 4 _ (dev5_eq c))) $$ HR HO H4; iintro HO
  iapply (wpB_ret c)
  iapply Hk $$ [HO HK HV]
  iframe HO HK; iexact HV

/-- The last two signals, and the wait for the seven peers: their slots are handed over. -/
theorem part7 (l : List (Fin 3 × Fin 7)) (hl : ∀ x ∈ l, kLv (some none) < kLv (some (oKind x))) (w : BitVec 32) {Q : _ → sProp 𝕄} :
    recs W κ ⊢ iprop(ow c ((0, 5) :: (0, 6) :: l) -∗ sigR c 5 -∗ sigR c 6 -∗ cred (tallyAt (barC c) () 7) -∗ atPos ER (barC c) 0 ∅ 0
      -∗ ((ow c l ∗ semVal (barC c) 0 ∗ bigSep Finset.univ fun j : Fin 7 => barPay c j)
          -∗ Q ⟨k0_pay2, iota .tc S256x4096 32 [1] iota_S256x4096_d1_w32, 64#32, k0_pay3, k0_pay4, Scalar.extui (Scalar.cmpi .sgt 64#32 0#32), Scalar.cmpi .slt 64#32 0#32⟩)
      -∗ wpB c (onBufs (k0_part7 (F := F)) c w (SemArray.scalar (sig.barrier 0 rfl))) Q) := by
  rw [k0_part7_eq_skeleton]; unfold k0_part7_skel
  simp only [semSignalWord, semWaitWord, Prog.lift, Prog.bind_op, Prog.bind_ret, Prog.pure_eq_ret]
  iintro #HR HO H5 H6 Hc Hat Hk
  iapply (cur3 (wp_barSig W κ c 5 _ (dev6_eq c))) $$ HR HO H5; iintro HO
  iapply (cur3 (wp_barSig W κ c 6 _ (dev7_eq c))) $$ HR HO H6; iintro HO
  iapply (cur4 (wp_barWait W κ c l hl)) $$ HR HO Hc Hat; iintro ⟨HO, Hz, Hp⟩
  iapply (wpB_ret c)
  iapply Hk $$ [HO Hz Hp]
  iframe HO Hz; iexact Hp

/-- The query weights arrive; the mask and the queries. -/
theorem part8 (l : List (Fin 3 × Fin 7)) (hl : ∀ x ∈ l, 0 < kLv (some (oKind x))) {Q : _ → sProp 𝕄} :
    recs W κ ⊢ iprop(ow c l -∗ flyQ c I.wq -∗ hasX I c
      -∗ ((ow c l ∗ hasQ c I.wq ∗ endQ c I.wq ∗ hasX I c) -∗ Q ⟨mask, xq I c, cScale⟩)
      -∗ wpB c (onBufs (k0_part8 (F := F)) c k0_pay2 (iota .tc S256x4096 32 [1] iota_S256x4096_d1_w32) 64#32 k0_pay3 k0_pay4
          (Scalar.extui (Scalar.cmpi .sgt 64#32 0#32)) (Scalar.cmpi .slt 64#32 0#32)) Q) := by
  rw [k0_part8_eq_skeleton]; unfold k0_part8_skel mask xq cScale
  simp only [Prog.lift, Prog.bind_op, Prog.bind_ret, Prog.pure_eq_ret]
  iintro #HR HO HQ HX Hk
  iapply (cur3 (wp_waitQ W κ c I.wq l hl)) $$ HR HO HQ; iintro ⟨HO, HQ, HQe⟩
  iapply (wp_loadX I c) $$ HX; iintro HX
  iapply (wp_loadQ I c) $$ HQ; iintro HQ
  iapply (wpB_ret c)
  iapply Hk $$ [HO HQ HQe HX]
  iframe HO HQ HQe; iexact HX

/-- The first head's keys and values and the output weights arrive. -/
theorem part9 (l : List (Fin 3 × Fin 7)) (hl : ∀ x ∈ l, 0 < kLv (some (oKind x))) {Q : _ → sProp 𝕄} :
    recs W κ ⊢ iprop(ow c l -∗ flyK c I.k 0 -∗ flyV c I.v 0 -∗ flyO c I.wo
      -∗ ((ow c l ∗ hasK c I.k 0 ∗ endK c I.k 0 ∗ hasV c I.v 0 ∗ endV c I.v 0 ∗ hasO c I.wo ∗ endO c I.wo)
          -∗ Q ⟨qs I c, k0_pay8 (F := F), k0_pay9 mask (xq I c) cScale (ldH I.k 0), k0_pay10 mask (xq I c) cScale (ldH I.k 0), k0_pay11 (ldH I.v 0),
              constant S256x128 .f32 0x00000000#32⟩)
      -∗ wpB c (onBufs (k0_part9 (F := F)) c mask (xq I c) cScale) Q) := by
  rw [k0_part9_eq_skeleton]; unfold k0_part9_skel qs
  simp only [Prog.lift, Prog.bind_op, Prog.bind_ret, Prog.pure_eq_ret]
  iintro #HR HO HK HV HW Hk
  iapply (cur3 (wp_waitK W κ c I.k 0 l hl rfl)) $$ HR HO HK; iintro ⟨HO, HK, HKe⟩
  iapply (cur3 (wp_waitV W κ c I.v 0 l hl rfl)) $$ HR HO HV; iintro ⟨HO, HV, HVe⟩
  iapply (cur3 (wp_waitO W κ c I.wo l hl)) $$ HR HO HW; iintro ⟨HO, HW, HWe⟩
  iapply (wp_loadK c I.k 0 rfl) $$ HK; iintro HK
  iapply (wp_loadV c I.v 0 rfl) $$ HV; iintro HV
  iapply (wpB_ret c)
  iapply Hk $$ [HO HW HWe HK HKe HV HVe]
  iframe HO HK HKe HV HVe HW; iexact HWe

/-- The second head's keys and values arrive; the first head's part of the sum. -/
theorem part10 (l : List (Fin 3 × Fin 7)) (hl : ∀ x ∈ l, 0 < kLv (some (oKind x))) (v229 : IVec S256x4096 1) (v236 v237 : FVec F S256x1024 .f32) (v258 : FVec F S256x4096 .bf16) (v261 : FVec F S256x1 .f32) (v263 : FVec F S4096x128 .f32) (cst : FVec F S256x128 .f32) {Q : _ → sProp 𝕄} :
    recs W κ ⊢ iprop(ow c l -∗ hasO c I.wo -∗ flyK c I.k 1 -∗ flyV c I.v 1
      -∗ ((ow c l ∗ hasO c I.wo ∗ hasK c I.k 1 ∗ endK c I.k 1 ∗ hasV c I.v 1 ∗ endV c I.v 1)
          -∗ Q ⟨k0_pay12 v237 v258 v261 v263 cst (ldO I c 0), k0_pay13 v229 v236 (ldH I.k 1), k0_pay14 v229 v236 (ldH I.k 1), ldH I.v 1⟩)
      -∗ wpB c (onBufs (k0_part10 (F := F)) v229 v236 v237 v258 v261 v263 cst) Q) := by
  rw [k0_part10_eq_skeleton]; unfold k0_part10_skel
  simp only [Prog.lift, Prog.bind_op, Prog.bind_ret, Prog.pure_eq_ret]
  iintro #HR HO HW HK HV Hk
  iapply (wp_loadO I c 0 rfl) $$ HW; iintro HW
  iapply (cur3 (wp_waitK W κ c I.k 1 l hl rfl)) $$ HR HO HK; iintro ⟨HO, HK, HKe⟩
  iapply (cur3 (wp_waitV W κ c I.v 1 l hl rfl)) $$ HR HO HV; iintro ⟨HO, HV, HVe⟩
  iapply (wp_loadK c I.k 1 rfl) $$ HK; iintro HK
  iapply (wp_loadV c I.v 1 rfl) $$ HV; iintro HV
  iapply (wpB_ret c)
  iapply Hk $$ [HO HW HK HKe HV HVe]
  iframe HO HW HK HKe HV; iexact HVe

/-- The third head's keys and values arrive; the second head's part of the sum. -/
theorem part11 (l : List (Fin 3 × Fin 7)) (hl : ∀ x ∈ l, 0 < kLv (some (oKind x))) (v229 : IVec S256x4096 1) (v236 v269 : FVec F S256x1024 .f32) (v289 : FVec F S256x4096 .bf16) (v292 : FVec F S256x1 .f32) (v293 : Vec F S1x4096x128 .f32) {Q : _ → sProp 𝕄} :
    recs W κ ⊢ iprop(ow c l -∗ hasO c I.wo -∗ flyK c I.k 2 -∗ flyV c I.v 2
      -∗ ((ow c l ∗ hasO c I.wo ∗ hasK c I.k 2 ∗ endK c I.k 2 ∗ hasV c I.v 2 ∗ endV c I.v 2)
          -∗ Q ⟨k0_pay15 v269 v289 v292 v293 (ldO I c 1), k0_pay16 v229 v236 (ldH I.k 2), k0_pay17 v229 v236 (ldH I.k 2)⟩)
      -∗ wpB c (onBufs (k0_part11 (F := F)) v229 v236 v269 v289 v292 v293) Q) := by
  rw [k0_part11_eq_skeleton]; unfold k0_part11_skel
  simp only [Prog.lift, Prog.bind_op, Prog.bind_ret, Prog.pure_eq_ret]
  iintro #HR HO HW HK HV Hk
  iapply (wp_loadO I c 1 rfl) $$ HW; iintro HW
  iapply (cur3 (wp_waitK W κ c I.k 2 l hl rfl)) $$ HR HO HK; iintro ⟨HO, HK, HKe⟩
  iapply (cur3 (wp_waitV W κ c I.v 2 l hl rfl)) $$ HR HO HV; iintro ⟨HO, HV, HVe⟩
  iapply (wp_loadK c I.k 2 rfl) $$ HK; iintro HK
  iapply (wpB_ret c)
  iapply Hk $$ [HO HW HK HKe HV HVe]
  iframe HO HW HK HKe HV; iexact HVe

/-- Head 2's part of the sum, head 3's keys and values arriving. -/
theorem part12 (l : List (Fin 3 × Fin 7)) (hl : ∀ x ∈ l, 0 < kLv (some (oKind x))) (m : IVec S256x4096 1) (q o : FVec F S256x1024 .f32) (e : FVec F S256x4096 .bf16) (r : FVec F S256x1 .f32) {Q : _ → sProp 𝕄} :
    recs W κ ⊢ iprop(ow c l -∗ hasO c I.wo -∗ hasV c I.v 2 -∗ flyK c I.k 3 -∗ flyV c I.v 3
      -∗ ((ow c l ∗ hasO c I.wo ∗ hasV c I.v 2 ∗ hasK c I.k 3 ∗ endK c I.k 3 ∗ hasV c I.v 3 ∗ endV c I.v 3)
          -∗ Q ⟨k0_pay18 o e r (ldH I.v 2) (ldO I c 2), k0_pay19 m q (ldH I.k 3), k0_pay20 m q (ldH I.k 3)⟩)
      -∗ wpB c (onBufs (k0_part12 (F := F)) m q o e r) Q) := by
  rw [k0_part12_eq_skeleton]; unfold k0_part12_skel
  simp only [Prog.lift, Prog.bind_op, Prog.bind_ret, Prog.pure_eq_ret]
  iintro #HR HO HW HU HK HV Hk
  iapply (wp_loadV c I.v 2 rfl) $$ HU; iintro HU
  iapply (wp_loadO I c 2 rfl) $$ HW; iintro HW
  iapply (cur3 (wp_waitK W κ c I.k 3 l hl rfl)) $$ HR HO HK; iintro ⟨HO, HK, HKe⟩
  iapply (cur3 (wp_waitV W κ c I.v 3 l hl rfl)) $$ HR HO HV; iintro ⟨HO, HV, HVe⟩
  iapply (wp_loadK c I.k 3 rfl) $$ HK; iintro HK
  iapply (wpB_ret c)
  iapply Hk $$ [HO HW HU HK HKe HV HVe]
  iframe HO HW HU HK HKe HV; iexact HVe

/-- Head 3's part of the sum, head 4's keys and values arriving. -/
theorem part13 (l : List (Fin 3 × Fin 7)) (hl : ∀ x ∈ l, 0 < kLv (some (oKind x))) (m : IVec S256x4096 1) (q o : FVec F S256x1024 .f32) (e : FVec F S256x4096 .bf16) (r : FVec F S256x1 .f32) {Q : _ → sProp 𝕄} :
    recs W κ ⊢ iprop(ow c l -∗ hasO c I.wo -∗ hasV c I.v 3 -∗ flyK c I.k 4 -∗ flyV c I.v 4
      -∗ ((ow c l ∗ hasO c I.wo ∗ hasV c I.v 3 ∗ hasK c I.k 4 ∗ endK c I.k 4 ∗ hasV c I.v 4 ∗ endV c I.v 4)
          -∗ Q ⟨k0_pay21 o e r (ldH I.v 3) (ldO I c 3), k0_pay22 m q (ldH I.k 4), k0_pay23 m q (ldH I.k 4)⟩)
      -∗ wpB c (onBufs (k0_part13 (F := F)) m q o e r) Q) := by
  rw [k0_part13_eq_skeleton]; unfold k0_part13_skel
  simp only [Prog.lift, Prog.bind_op, Prog.bind_ret, Prog.pure_eq_ret]
  iintro #HR HO HW HU HK HV Hk
  iapply (wp_loadV c I.v 3 rfl) $$ HU; iintro HU
  iapply (wp_loadO I c 3 rfl) $$ HW; iintro HW
  iapply (cur3 (wp_waitK W κ c I.k 4 l hl rfl)) $$ HR HO HK; iintro ⟨HO, HK, HKe⟩
  iapply (cur3 (wp_waitV W κ c I.v 4 l hl rfl)) $$ HR HO HV; iintro ⟨HO, HV, HVe⟩
  iapply (wp_loadK c I.k 4 rfl) $$ HK; iintro HK
  iapply (wpB_ret c)
  iapply Hk $$ [HO HW HU HK HKe HV HVe]
  iframe HO HW HU HK HKe HV; iexact HVe

/-- Head 4's part of the sum, head 5's keys and values arriving. -/
theorem part14 (l : List (Fin 3 × Fin 7)) (hl : ∀ x ∈ l, 0 < kLv (some (oKind x))) (m : IVec S256x4096 1) (q o : FVec F S256x1024 .f32) (e : FVec F S256x4096 .bf16) (r : FVec F S256x4096 .f32) {Q : _ → sProp 𝕄} :
    recs W κ ⊢ iprop(ow c l -∗ hasO c I.wo -∗ hasV c I.v 4 -∗ flyK c I.k 5 -∗ flyV c I.v 5
      -∗ ((ow c l ∗ hasO c I.wo ∗ hasV c I.v 4 ∗ hasK c I.k 5 ∗ endK c I.k 5 ∗ hasV c I.v 5 ∗ endV c I.v 5)
          -∗ Q ⟨k0_pay24 o e r (ldH I.v 4) (ldO I c 4), k0_pay25 m q (ldH I.k 5)⟩)
      -∗ wpB c (onBufs (k0_part14 (F := F)) m q o e r) Q) := by
  rw [k0_part14_eq_skeleton]; unfold k0_part14_skel
  simp only [Prog.lift, Prog.bind_op, Prog.bind_ret, Prog.pure_eq_ret]
  iintro #HR HO HW HU HK HV Hk
  iapply (wp_loadV c I.v 4 rfl) $$ HU; iintro HU
  iapply (wp_loadO I c 4 rfl) $$ HW; iintro HW
  iapply (cur3 (wp_waitK W κ c I.k 5 l hl rfl)) $$ HR HO HK; iintro ⟨HO, HK, HKe⟩
  iapply (cur3 (wp_waitV W κ c I.v 5 l hl rfl)) $$ HR HO HV; iintro ⟨HO, HV, HVe⟩
  iapply (wp_loadK c I.k 5 rfl) $$ HK; iintro HK
  iapply (wpB_ret c)
  iapply Hk $$ [HO HW HU HK HKe HV HVe]
  iframe HO HW HU HK HKe HV; iexact HVe

/-- Head 5's part of the sum, head 6's keys and values arriving. -/
theorem part15 (l : List (Fin 3 × Fin 7)) (hl : ∀ x ∈ l, 0 < kLv (some (oKind x))) (m : IVec S256x4096 1) (q o : FVec F S256x1024 .f32) (e : FVec F S256x4096 .bf16) {Q : _ → sProp 𝕄} :
    recs W κ ⊢ iprop(ow c l -∗ hasO c I.wo -∗ hasV c I.v 5 -∗ flyK c I.k 6 -∗ flyV c I.v 6
      -∗ ((ow c l ∗ hasO c I.wo ∗ hasV c I.v 5 ∗ hasK c I.k 6 ∗ endK c I.k 6 ∗ hasV c I.v 6 ∗ endV c I.v 6)
          -∗ Q ⟨k0_pay26 o e (ldH I.v 5) (ldO I c 5), k0_pay27 m q (ldH I.k 6)⟩)
      -∗ wpB c (onBufs (k0_part15 (F := F)) m q o e) Q) := by
  rw [k0_part15_eq_skeleton]; unfold k0_part15_skel
  simp only [Prog.lift, Prog.bind_op, Prog.bind_ret, Prog.pure_eq_ret]
  iintro #HR HO HW HU HK HV Hk
  iapply (wp_loadV c I.v 5 rfl) $$ HU; iintro HU
  iapply (wp_loadO I c 5 rfl) $$ HW; iintro HW
  iapply (cur3 (wp_waitK W κ c I.k 6 l hl rfl)) $$ HR HO HK; iintro ⟨HO, HK, HKe⟩
  iapply (cur3 (wp_waitV W κ c I.v 6 l hl rfl)) $$ HR HO HV; iintro ⟨HO, HV, HVe⟩
  iapply (wp_loadK c I.k 6 rfl) $$ HK; iintro HK
  iapply (wpB_ret c)
  iapply Hk $$ [HO HW HU HK HKe HV HVe]
  iframe HO HW HU HK HKe HV; iexact HVe

/-- Head 6's part of the sum, head 7's keys and values arriving. -/
theorem part16 (l : List (Fin 3 × Fin 7)) (hl : ∀ x ∈ l, 0 < kLv (some (oKind x))) (q o : FVec F S256x1024 .f32) (e : FVec F S256x4096 .f32) {Q : _ → sProp 𝕄} :
    recs W κ ⊢ iprop(ow c l -∗ hasO c I.wo -∗ hasV c I.v 6 -∗ flyK c I.k 7 -∗ flyV c I.v 7
      -∗ ((ow c l ∗ hasO c I.wo ∗ hasV c I.v 6 ∗ hasK c I.k 7 ∗ endK c I.k 7 ∗ hasV c I.v 7 ∗ endV c I.v 7)
          -∗ Q ⟨k0_pay28 o e (ldH I.v 6) (ldO I c 6), k0_pay29 q (ldH I.k 7), cFill⟩)
      -∗ wpB c (onBufs (k0_part16 (F := F)) q o e) Q) := by
  rw [k0_part16_eq_skeleton]; unfold k0_part16_skel cFill
  simp only [Prog.lift, Prog.bind_op, Prog.bind_ret, Prog.pure_eq_ret]
  iintro #HR HO HW HU HK HV Hk
  iapply (wp_loadV c I.v 6 rfl) $$ HU; iintro HU
  iapply (wp_loadO I c 6 rfl) $$ HW; iintro HW
  iapply (cur3 (wp_waitK W κ c I.k 7 l hl rfl)) $$ HR HO HK; iintro ⟨HO, HK, HKe⟩
  iapply (cur3 (wp_waitV W κ c I.v 7 l hl rfl)) $$ HR HO HV; iintro ⟨HO, HV, HVe⟩
  iapply (wp_loadK c I.k 7 rfl) $$ HK; iintro HK
  iapply (wpB_ret c)
  iapply Hk $$ [HO HW HU HK HKe HV HVe]
  iframe HO HW HU HK HKe HV; iexact HVe

end Cert.Attn
-- ==== Proof.Body2.lean ====
/-
# The body, second half

The scatter: the partial sums are stored and seven blocks sent. The accumulation of the kept rows. The gather: the finished
rows are sent to the seven peers and seven blocks arrive.
-/
module

public import proofs.«01_k».proof.Proof.Body1

@[expose] public section

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight Flight_mono shareTok shareDrop)
open Idealize.ShloMosaic.ValueIdx (ix2 ix3 ix4)

variable {F : FTy → Type} [FloatOps F]

local notation "𝕄" => MT nD τ sig Unit (Elt F) ℕ UU ℕ

variable (W : Dev nD → WC F) (κ : Dev nD × CK → ℕ) (I : Inp F) (c : Dev nD)

/-! ## The steps, their resources bundled -/

/-- What a scatter send uses besides the block; what a gather send uses besides its source. -/
abbrev rsR (c : Dev nD) (j : Fin 7) : sProp 𝕄 := iprop(dutyTok ER (xC 0 c j) 0 0 ∗ dutyTok ER (xC 1 (peer c j) j) 0 0)
abbrev agR (c : Dev nD) (j : Fin 7) : sProp 𝕄 := iprop(dutyTok ER (xC 2 c j) 0 0 ∗ dutyTok ER (xC 3 (peer c j) j) 0 0)
/-- The credit a send leaves, the position a wait starts from, the semaphore back at zero. -/
abbrev crd (t : Fin 4) (c : Dev nD) (j : Fin 7) : sProp 𝕄 := cred (tallyAt (xC t c j) () N)
abbrev pos (t : Fin 4) (c : Dev nD) (j : Fin 7) : sProp 𝕄 := atPos ER (xC t c j) 0 ∅ 0
abbrev zer (t : Fin 4) (c : Dev nD) (j : Fin 7) : sProp 𝕄 := semVal (xC t c j) 0
/-- What a scatter arrival brings: the peer's sums, and the peer's block to write back to. -/
abbrev slotH (j : Fin 7) : sProp 𝕄 := sPts c j (slotsOf W c)
abbrev backH (j : Fin 7) : sProp 𝕄 := wPts (peer c j) (vb c) (W (peer c j))

theorem wp_rs {α : Type} {Q : α → sProp 𝕄} {k : PUnit → Prog (TpuEff nD τ sig (Elt F) Λ₀ .tc) α} (j : Fin 7) {l : List (Fin 3 × Fin 7)} {p : Dev nD} (hp : p = peer c j)
    {off : Fin 2 → ℕ} (hoff : off = ![32 * (xo (vb c) j).val, 0]) {h} {off' : Fin 3 → ℕ} (hoff' : off' = ![j.val, 0, 0]) {h'}
    {sS sR : DmaSem sig} (hS : sS = dsem 0 j) (hR : sR = dsem 1 j)
    {hsc : (slotV off' h' : Memref sig (Dev.tc p : Thread nD τ).2.kind .vmem S32x1024 .bf16).view.ref.isScScratch = false}
    {hsrc : (blkV off h).view.WordExact} {hdst : (slotV off' h').view.WordExact}
    {hsem : DmaTarget.Typed .vmem (.dma sR) (.remote (Dev.tc p : Thread nD τ) (slotV off' h') (.dma sS) hsc)} :
    recs W κ ⊢ iprop(ow c ((1, j) :: l) -∗ rsR c j -∗ wPts c (xo (vb c) j) (W c) -∗ barPay (F := F) c j
      -∗ ((crd 0 c j ∗ ow c l) -∗ wpB c (k ⟨⟩) Q)
      -∗ wpB c (.op (.enqueueDma (blkV off h) (.remote (Dev.tc p : Thread nD τ) (slotV off' h') (.dma sS) hsc) (.dma sR) hsrc hdst hsem) k) Q) := by
  iintro #HR HO ⟨H1, H2⟩ Hw Hb
  iapply (cur6 (wp_rsSend W κ c j l hp hoff hoff' hS hR)) $$ HR HO H1 H2 Hw Hb

theorem wp_ag {α : Type} {Q : α → sProp 𝕄} {k : PUnit → Prog (TpuEff nD τ sig (Elt F) Λ₀ .tc) α} (j : Fin 7) {l : List (Fin 3 × Fin 7)} {p : Dev nD} (hp : p = peer c j)
    {off off' : Fin 2 → ℕ} (hoff : off = ![32 * (vb c).val, 0]) (hoff' : off' = off) {h h'}
    {sS sR : DmaSem sig} (hS : sS = dsem 2 j) (hR : sR = dsem 3 j)
    {hsc : (blkV off' h' : Memref sig (Dev.tc p : Thread nD τ).2.kind .vmem S32x1024 .bf16).view.ref.isScScratch = false}
    {hsrc : (blkV off h).view.WordExact} {hdst : (blkV off' h').view.WordExact}
    {hsem : DmaTarget.Typed .vmem (.dma sR) (.remote (Dev.tc p : Thread nD τ) (blkV off' h') (.dma sS) hsc)} :
    recs W κ ⊢ iprop(ow c ((2, j) :: l) -∗ agR c j -∗ agsPay W c j -∗ backH W c j
      -∗ ((crd 2 c j ∗ ow c l) -∗ wpB c (k ⟨⟩) Q)
      -∗ wpB c (.op (.enqueueDma (blkV off h) (.remote (Dev.tc p : Thread nD τ) (blkV off' h') (.dma sS) hsc) (.dma sR) hsrc hdst hsem) k) Q) := by
  iintro #HR HO ⟨H1, H2⟩ Hw Hb
  iapply (cur6 (wp_agSend W κ c j l hp hoff hoff' hS hR (W (peer c j)))) $$ HR HO H1 H2 Hw Hb

section waits
variable (j : Fin 7) {l : List (Fin 3 × Fin 7)}
    {s : DmaSem sig} {sp sp' : Space} {s' : Shape} {e' : EltTy} {src : Memref sig .tc sp' s' e'} {dst : Memref sig .tc sp S32x1024 .bf16}
    {hsrc : src.view.WordExact} {hdst : dst.view.WordExact}

theorem wp_w0 {α : Type} {Q : α → sProp 𝕄} {k : PUnit → Prog (TpuEff nD τ sig (Elt F) Λ₀ .tc) α} (hl : ∀ x ∈ l, 0 < kLv (some (oKind x))) (hs : s = dsem 0 j) :
    recs W κ ⊢ iprop(ow c l -∗ crd 0 c j -∗ pos 0 c j -∗ ((ow c l ∗ zer 0 c j) -∗ wpB c (k ⟨⟩) Q) -∗ wpB c (.op (.waitDma2 s src dst hsrc hdst) k) Q) := by
  iintro #HR HO Hc Hp Hk
  iapply (cur4 (wp_xWait W κ c 0 j l hl hs)) $$ HR HO Hc Hp
  iintro ⟨HO, Hz, -⟩
  iapply Hk; iframe HO; iexact Hz
theorem wp_w1 {α : Type} {Q : α → sProp 𝕄} {k : PUnit → Prog (TpuEff nD τ sig (Elt F) Λ₀ .tc) α} (hl : ∀ x ∈ l, 2 < kLv (some (oKind x))) (hs : s = dsem 1 j) :
    recs W κ ⊢ iprop(ow c l -∗ crd 1 c j -∗ pos 1 c j -∗ ((ow c l ∗ zer 1 c j ∗ slotH W c j ∗ backH W c j) -∗ wpB c (k ⟨⟩) Q) -∗ wpB c (.op (.waitDma2 s src dst hsrc hdst) k) Q) := by
  iintro #HR HO Hc Hp Hk
  iapply (cur4 (wp_xWait W κ c 1 j l hl hs)) $$ HR HO Hc Hp
  iintro ⟨HO, Hz, H⟩
  ihave H' := (show kPay W c (some (some (1, j))) 0 ⊢ iprop(slotH W c j ∗ backH W c j) from .rfl) $$ H
  iapply Hk; iframe HO Hz; iexact H'
theorem wp_w2 {α : Type} {Q : α → sProp 𝕄} {k : PUnit → Prog (TpuEff nD τ sig (Elt F) Λ₀ .tc) α} (hl : ∀ x ∈ l, 0 < kLv (some (oKind x))) (hs : s = dsem 2 j) :
    recs W κ ⊢ iprop(ow c l -∗ crd 2 c j -∗ pos 2 c j -∗ ((ow c l ∗ zer 2 c j ∗ agsPay W c j) -∗ wpB c (k ⟨⟩) Q) -∗ wpB c (.op (.waitDma2 s src dst hsrc hdst) k) Q) :=
  cur4 (wp_xWait W κ c 2 j l hl hs)
theorem wp_w3 {α : Type} {Q : α → sProp 𝕄} {k : PUnit → Prog (TpuEff nD τ sig (Elt F) Λ₀ .tc) α} (hl : ∀ x ∈ l, 3 < kLv (some (oKind x))) (hs : s = dsem 3 j) :
    recs W κ ⊢ iprop(ow c l -∗ crd 3 c j -∗ pos 3 c j -∗ ((ow c l ∗ zer 3 c j ∗ agPay W c j) -∗ wpB c (k ⟨⟩) Q) -∗ wpB c (.op (.waitDma2 s src dst hsrc hdst) k) Q) :=
  cur4 (wp_xWait W κ c 3 j l hl hs)
end waits

/-! ## Loads and stores of the exchange's buffers -/

theorem wp_loadS {α : Type} {Q : α → sProp 𝕄} {k : Vec F S1x32x1024 .bf16 → Prog (TpuEff nD τ sig (Elt F) Λ₀ .tc) α} (j : Fin 7)
    {off} (hoff : off = ![j.val, 0, 0]) {h} {hl : sM.view.LoadsAt (Rect.unit (s := S7x32x1024) off S1x32x1024.size h).toLoadRect} :
    slotH W c j ⊢ iprop((slotH W c j -∗ wpB c (k (ldS W c j)) Q) -∗ wpB c (.op (.load sM (Rect.unit (s := S7x32x1024) off S1x32x1024.size h).toLoadRect hl) k) Q) := by
  subst hoff
  exact wp_load 𝒱₀ (c : Thread nD τ) none Set.univ (m := sM) (by
    rw [show sM.view.setOn _ = _ from Finset.map_refl]; exact (set_slotRect j rfl h).subset)
theorem wp_loadB {α : Type} {Q : α → sProp 𝕄} {k : Vec F S32x1024 .bf16 → Prog (TpuEff nD τ sig (Elt F) Λ₀ .tc) α}
    {h} {hl : wM.view.LoadsAt (Rect.unit (s := S256x1024) (k0_off4 c) S32x1024.size h).toLoadRect} :
    wPts c (vb c) (W c) ⊢ iprop((wPts c (vb c) (W c) -∗ wpB c (k (ldW W c)) Q) -∗ wpB c (.op (.load wM (Rect.unit (s := S256x1024) (k0_off4 c) S32x1024.size h).toLoadRect hl) k) Q) :=
  wp_load 𝒱₀ (c : Thread nD τ) none Set.univ (m := wM) (by
    rw [show wM.view.setOn _ = _ from Finset.map_refl]; exact (set_blkRect (vb c) (off4_eq c) h).subset)
/-- The store of the finished rows. -/
theorem wp_storeB {α : Type} {Q : α → sProp 𝕄} {k : PUnit → Prog (TpuEff nD τ sig (Elt F) Λ₀ .tc) α}
    {h} {v : Vec F S32x1024 .bf16} (hv : v = acc W c) {hx : (wM.access (Rect.unit (s := S256x1024) (k0_off4 c) S32x1024.size h)).Stores Finset.univ} {hm} :
    wPts c (vb c) (W c) ⊢ iprop((wPts c (vb c) (gath W) -∗ wpB c (k ⟨⟩) Q) -∗ wpB c (.op (.store wM (Rect.unit (s := S256x1024) (k0_off4 c) S32x1024.size h) v Finset.univ hx hm) k) Q) := by
  subst hv
  have e : (wM.access (Rect.unit (s := S256x1024) (k0_off4 c) S32x1024.size h)).setOn Finset.univ ⊆ blk (vb c) :=
    (set_blkV (vb c) (off4_eq c) h).subset
  unfold wPts
  iintro H Hk
  iapply (wp_store 𝒱₀ (c : Thread nD τ) none Set.univ (m := wM) (r := Rect.unit (s := S256x1024) (k0_off4 c) S32x1024.size h) (Mk := Finset.univ) e) $$ H
  iintro H
  iapply Hk
  iapply (Entails.of_eq (pointsTo_congr (stored_blk W c (off4_eq c) h (W c)))) $$ H

/-- A load of the whole sums' buffer whose result is not used, the store of all partial sums, the load of all rows. -/
abbrev anyW : sProp 𝕄 := iprop(∃ f : WC F, wL c ↦{fullShare} f)
theorem wp_readW {α : Type} {Q : α → sProp 𝕄} {k : Vec F S256x1024 .bf16 → Prog (TpuEff nD τ sig (Elt F) Λ₀ .tc) α}
    {h} {hl : wM.view.LoadsAt (Rect.unit (s := S256x1024) ![0, 0] S256x1024.size h).toLoadRect} (f : WC F) :
    (wL c ↦{fullShare} f) ⊢ iprop(((wL c ↦{fullShare} f) -∗ wpB c (k (wM.view.readAt (Elt F) (Rect.unit (s := S256x1024) ![0, 0] S256x1024.size h).toLoadRect f)) Q)
      -∗ wpB c (.op (.load wM (Rect.unit (s := S256x1024) ![0, 0] S256x1024.size h).toLoadRect hl) k) Q) :=
  wp_load 𝒱₀ (c : Thread nD τ) none Set.univ (m := wM) (Finset.subset_univ _)
theorem wp_deadW {α : Type} {Q : α → sProp 𝕄} {k : Vec F S256x1024 .bf16 → Prog (TpuEff nD τ sig (Elt F) Λ₀ .tc) α}
    {h} {hl : wM.view.LoadsAt (Rect.unit (s := S256x1024) ![0, 0] S256x1024.size h).toLoadRect} :
    anyW c ⊢ iprop((anyW c -∗ ∀ v, wpB c (k v) Q) -∗ wpB c (.op (.load wM (Rect.unit (s := S256x1024) ![0, 0] S256x1024.size h).toLoadRect hl) k) Q) := by
  iintro ⟨%f, H⟩ Hk
  iapply (wp_readW c f) $$ H
  iintro H
  iapply Hk $$ [H]
  iexists f; iexact H
theorem wp_storeW {α : Type} {Q : α → sProp 𝕄} {k : PUnit → Prog (TpuEff nD τ sig (Elt F) Λ₀ .tc) α}
    {h} {v : Vec F S256x1024 .bf16} {hx : (wM.access (Rect.unit (s := S256x1024) ![0, 0] S256x1024.size h)).Stores Finset.univ} {hm} :
    anyW c ⊢ iprop(((wL c ↦{fullShare} v) -∗ wpB c (k ⟨⟩) Q) -∗ wpB c (.op (.store wM (Rect.unit (s := S256x1024) ![0, 0] S256x1024.size h) v Finset.univ hx hm) k) Q) := by
  iintro ⟨%f, H⟩ Hk
  have e := Memref.write_access_unit_zero_univ (Elt F) cc0_scratch4 hz2 h f v
  iapply (wp_store (Γ := .empty) 𝒱₀ (c : Thread nD τ) none Set.univ (m := wM) (r := Rect.unit (s := S256x1024) ![0, 0] S256x1024.size h) (Mk := Finset.univ) (Finset.subset_univ _)) $$ H
  iintro H
  iapply Hk
  iapply (Entails.of_eq (congrArg (fun g => (wL c ↦{fullShare} g : sProp 𝕄)) e)) $$ H
/-- What the last load reads. -/
def ldG : Vec F S256x1024 .bf16 :=
  wM.view.readAt (Elt F) (Rect.unit (s := S256x1024) ![0, 0] S256x1024.size inb_S256x1024_S256x1024_0_0).toLoadRect (gath W)
theorem ldG_eq : ldG W = gath W := Memref.readAt_unit_zero (Elt F) cc0_scratch4 hz2 _ (gath W)
theorem wp_loadG {α : Type} {Q : α → sProp 𝕄} {k : Vec F S256x1024 .bf16 → Prog (TpuEff nD τ sig (Elt F) Λ₀ .tc) α}
    {h} {hl : wM.view.LoadsAt (Rect.unit (s := S256x1024) ![0, 0] S256x1024.size h).toLoadRect} :
    (wL c ↦{fullShare} gath W) ⊢ iprop(((wL c ↦{fullShare} gath W) -∗ wpB c (k (ldG W)) Q) -∗ wpB c (.op (.load wM (Rect.unit (s := S256x1024) ![0, 0] S256x1024.size h).toLoadRect hl) k) Q) :=
  wp_load 𝒱₀ (c : Thread nD τ) none Set.univ (m := wM) (Finset.subset_univ _)

/-- A product over the seven steps, written out. -/
abbrev sep7 (Φ : Fin 7 → sProp 𝕄) : sProp 𝕄 := iprop(Φ 0 ∗ Φ 1 ∗ Φ 2 ∗ Φ 3 ∗ Φ 4 ∗ Φ 5 ∗ Φ 6)
theorem bigSep7 (Φ : Fin 7 → sProp 𝕄) : bigSep Finset.univ Φ = sep7 Φ :=
  bigSep_univ_eq_bigSepL [0, 1, 2, 3, 4, 5, 6] (by decide) (by decide) Φ

/-- The buffer of sums, stored, in its eight blocks. -/
theorem wSplit : (wL c ↦{fullShare} W c : sProp 𝕄) ⊢ iprop(wPts c (vb c) (W c) ∗ sep7 fun j => wPts c (xo (vb c) j) (W c)) := by
  rw [← bigSep7]; exact (wPts_all c (W c)).1
/-- The finished rows, lent to seven sends; and back. -/
abbrev agRest : sProp 𝕄 := wL c ↦[blk (vb c)]{shareDrop fullShare 7} gath W
theorem gSplit : wPts c (vb c) (gath W) ⊢ iprop(agRest W c ∗ sep7 fun j => agsPay W c j) := by
  rw [← bigSep7]
  exact Transfers.pointsTo_toks_split (Ix := Unit) (Name := ℕ) (U := UU) (Lvl := ℕ) fullShare 7
/-- All rows are there: one's own, back from the sends, and those of the seven peers. -/
theorem gJoin : iprop(agRest W c ∗ (sep7 fun j => agsPay W c j) ∗ sep7 fun j => agPay W c j) ⊢ wL c ↦{fullShare} gath W := by
  rw [← bigSep7, ← bigSep7]
  refine BIBase.Entails.trans ?_ (wPts_all c (gath W)).2
  have e : (bigSep Finset.univ fun j : Fin 7 => agPay W c j) = bigSep Finset.univ fun j : Fin 7 => wPts c (xo (vb c) j) (gath W) :=
    congrArg (bigSep Finset.univ) (funext fun j => by unfold agPay; rw [vb_peer])
  rw [e]
  iintro ⟨H1, H2, H3⟩
  isplitl [H1 H2]
  · unfold wPts
    iapply (Transfers.pointsTo_toks_join (Ix := Unit) (Name := ℕ) (U := UU) (Lvl := ℕ) (ℓ := wL c) (S := blk (vb c)) (f := gath W) fullShare 7)
    isplitl [H1]; · iexact H1
    iexact H2
  iexact H3

/-! ## The pieces -/

/-- The last head's part of the sum; the partial sums are stored, and the first block sent. -/
theorem part17 {l : List (Fin 3 × Fin 7)} (w1 w2 : BitVec 32) (m : IVec S256x4096 1) (o : FVec F S256x1024 .f32) (e : FVec F S256x4096 .f32) (f : F .f32)
    (hW : k0_pay30 m o e f (ldH I.v 7) (ldO I c 7) = W c) {Q : _ → sProp 𝕄} :
    recs W κ ⊢ iprop(ow c ((1, 0) :: l) -∗ hasV c I.v 7 -∗ hasO c I.wo -∗ anyW c -∗ rsR c 0 -∗ barPay (F := F) c 0
      -∗ ((ow c l ∗ hasV c I.v 7 ∗ hasO c I.wo ∗ crd 0 c 0 ∗ wPts c (vb c) (W c) ∗ wPts c (xo (vb c) 1) (W c) ∗ wPts c (xo (vb c) 2) (W c)
            ∗ wPts c (xo (vb c) 3) (W c) ∗ wPts c (xo (vb c) 4) (W c) ∗ wPts c (xo (vb c) 5) (W c) ∗ wPts c (xo (vb c) 6) (W c)) -∗ ∀ r, Q r)
      -∗ wpB c (onBufs (k0_part17 (F := F)) c w1 w2 m o e f) Q) := by
  rw [k0_part17_eq_skeleton]; unfold k0_part17_skel
  simp only [Prog.lift, Prog.bind_op, Prog.bind_ret, Prog.pure_eq_ret]
  iintro #HR HO HV HW Ha Hr Hb Hk
  iapply (wp_loadV c I.v 7 rfl) $$ HV; iintro HV
  iapply (wp_loadO I c 7 rfl) $$ HW; iintro HW
  iapply (wp_deadW c) $$ Ha; iintro Ha %v
  iapply (wp_storeW c) $$ Ha; iintro Ha
  rw [hW]
  ihave Hs := (wSplit W c) $$ Ha
  icases Hs with ⟨Hw, H0, H1, H2, H3, H4, H5, H6⟩
  iapply (wp_rs W κ c 0 (dev8_eq c) (off3_eq c 0) rfl rfl rfl) $$ HR HO Hr H0 Hb; iintro ⟨Hc, HO⟩
  iapply (wpB_ret c)
  iapply Hk $$ [HO HV HW Hc Hw H1 H2 H3 H4 H5 H6]
  iframe HO HV HW Hc Hw H1 H2 H3 H4 H5; iexact H6

/-- Three more blocks are sent. -/
theorem part18 {l : List (Fin 3 × Fin 7)} (w1 w2 w3 w4 w5 : BitVec 32) {Q : _ → sProp 𝕄} :
    recs W κ ⊢ iprop(ow c ((1, 1) :: (1, 2) :: (1, 3) :: l) -∗ rsR c 1 -∗ wPts c (xo (vb c) 1) (W c) -∗ barPay (F := F) c 1
      -∗ rsR c 2 -∗ wPts c (xo (vb c) 2) (W c) -∗ barPay (F := F) c 2 -∗ rsR c 3 -∗ wPts c (xo (vb c) 3) (W c) -∗ barPay (F := F) c 3
      -∗ ((ow c l ∗ crd 0 c 1 ∗ crd 0 c 2 ∗ crd 0 c 3) -∗ ∀ r, Q r)
      -∗ wpB c (onBufs (k0_part18 (F := F)) c w1 w2 w3 w4 w5) Q) := by
  rw [k0_part18_eq_skeleton]; unfold k0_part18_skel
  simp only [Prog.lift, Prog.bind_op, Prog.bind_ret, Prog.pure_eq_ret]
  iintro #HR HO R1 W1 B1 R2 W2 B2 R3 W3 B3 Hk
  iapply (wp_rs W κ c 1 (dev9_eq c) (off3_eq c 1) rfl rfl rfl) $$ HR HO R1 W1 B1; iintro ⟨C1, HO⟩
  iapply (wp_rs W κ c 2 (dev10_eq c) (off3_eq c 2) rfl rfl rfl) $$ HR HO R2 W2 B2; iintro ⟨C2, HO⟩
  iapply (wp_rs W κ c 3 (dev11_eq c) (off3_eq c 3) rfl rfl rfl) $$ HR HO R3 W3 B3; iintro ⟨C3, HO⟩
  iapply (wpB_ret c)
  iapply Hk $$ [HO C1 C2 C3]
  iframe HO C1 C2; iexact C3

/-- Two more blocks are sent. -/
theorem part19 {l : List (Fin 3 × Fin 7)} (w1 w2 w3 w4 w5 : BitVec 32) {Q : _ → sProp 𝕄} :
    recs W κ ⊢ iprop(ow c ((1, 4) :: (1, 5) :: l) -∗ rsR c 4 -∗ wPts c (xo (vb c) 4) (W c) -∗ barPay (F := F) c 4
      -∗ rsR c 5 -∗ wPts c (xo (vb c) 5) (W c) -∗ barPay (F := F) c 5
      -∗ ((ow c l ∗ crd 0 c 4 ∗ crd 0 c 5) -∗ Q ⟨⟩)
      -∗ wpB c (onBufs (k0_part19 (F := F)) c w1 w2 w3 w4 w5) Q) := by
  rw [k0_part19_eq_skeleton]; unfold k0_part19_skel
  simp only [Prog.lift, Prog.bind_op, Prog.bind_ret, Prog.pure_eq_ret]
  iintro #HR HO R1 W1 B1 R2 W2 B2 Hk
  iapply (wp_rs W κ c 4 (dev12_eq c) (off3_eq c 4) rfl rfl rfl) $$ HR HO R1 W1 B1; iintro ⟨C1, HO⟩
  iapply (wp_rs W κ c 5 (dev13_eq c) (off3_eq c 5) rfl rfl rfl) $$ HR HO R2 W2 B2; iintro ⟨C2, HO⟩
  iapply (wpB_ret c)
  iapply Hk $$ [HO C1 C2]
  iframe HO C1; iexact C2

/-- The last block is sent; the first arrival is added to the kept rows. -/
theorem part20 {l : List (Fin 3 × Fin 7)} (hl : ∀ x ∈ l, 2 < kLv (some (oKind x))) (w1 w2 : BitVec 32) {Q : _ → sProp 𝕄} :
    recs W κ ⊢ iprop(ow c ((1, 6) :: l) -∗ rsR c 6 -∗ wPts c (xo (vb c) 6) (W c) -∗ barPay (F := F) c 6 -∗ wPts c (vb c) (W c)
      -∗ crd 0 c 0 -∗ pos 0 c 0 -∗ crd 1 c 0 -∗ pos 1 c 0 -∗ crd 0 c 1 -∗ pos 0 c 1
      -∗ ((ow c l ∗ crd 0 c 6 ∗ wPts c (vb c) (W c) ∗ zer 0 c 0 ∗ zer 1 c 0 ∗ slotH W c 0 ∗ backH W c 0 ∗ zer 0 c 1) -∗ Q (accA W c))
      -∗ wpB c (onBufs (k0_part20 (F := F)) c w1 w2) Q) := by
  rw [k0_part20_eq_skeleton]; unfold k0_part20_skel accA
  simp only [Prog.lift, Prog.bind_op, Prog.bind_ret, Prog.pure_eq_ret]
  have hl0 : ∀ x ∈ l, 0 < kLv (some (oKind x)) := fun x hx => Nat.lt_trans (by decide) (hl x hx)
  iintro #HR HO R6 W6 B6 Hw C0 P0 D0 E0 C1 P1 Hk
  iapply (wp_rs W κ c 6 (dev14_eq c) (off3_eq c 6) rfl rfl rfl) $$ HR HO R6 W6 B6; iintro ⟨C6, HO⟩
  iapply (wp_loadB W c) $$ Hw; iintro Hw
  iapply (wp_w0 W κ c 0 hl0 rfl) $$ HR HO C0 P0; iintro ⟨HO, Z0⟩
  iapply (wp_w1 W κ c 0 hl rfl) $$ HR HO D0 E0; iintro ⟨HO, Y0, S0, K0⟩
  iapply (wp_loadS W c 0 rfl) $$ S0; iintro S0
  iapply (wp_w0 W κ c 1 hl0 rfl) $$ HR HO C1 P1; iintro ⟨HO, Z1⟩
  iapply (wpB_ret c)
  iapply Hk $$ [HO C6 Hw Z0 Y0 S0 K0 Z1]
  iframe HO C6 Hw Z0 Y0 S0 K0; iexact Z1

/-- The arrivals of two steps are added. -/
theorem part21 {l : List (Fin 3 × Fin 7)} (hl : ∀ x ∈ l, 2 < kLv (some (oKind x))) (w1 w2 : BitVec 32) {Q : _ → sProp 𝕄} :
    recs W κ ⊢ iprop(ow c l -∗ crd 1 c 1 -∗ pos 1 c 1 -∗ crd 0 c 2 -∗ pos 0 c 2 -∗ crd 1 c 2 -∗ pos 1 c 2
      -∗ ((ow c l ∗ zer 1 c 1 ∗ slotH W c 1 ∗ backH W c 1 ∗ zer 0 c 2 ∗ zer 1 c 2 ∗ slotH W c 2 ∗ backH W c 2) -∗ Q (accB W c))
      -∗ wpB c (onBufs (k0_part21 (F := F)) c w1 w2 (accA W c)) Q) := by
  rw [k0_part21_eq_skeleton]; unfold k0_part21_skel accB
  simp only [Prog.lift, Prog.bind_op, Prog.bind_ret, Prog.pure_eq_ret]
  have hl0 : ∀ x ∈ l, 0 < kLv (some (oKind x)) := fun x hx => Nat.lt_trans (by decide) (hl x hx)
  iintro #HR HO D1 E1 C2 P2 D2 E2 Hk
  iapply (wp_w1 W κ c 1 hl rfl) $$ HR HO D1 E1; iintro ⟨HO, Y1, S1, K1⟩
  iapply (wp_loadS W c 1 rfl) $$ S1; iintro S1
  iapply (wp_w0 W κ c 2 hl0 rfl) $$ HR HO C2 P2; iintro ⟨HO, Z2⟩
  iapply (wp_w1 W κ c 2 hl rfl) $$ HR HO D2 E2; iintro ⟨HO, Y2, S2, K2⟩
  iapply (wp_loadS W c 2 rfl) $$ S2; iintro S2
  iapply (wpB_ret c)
  iapply Hk $$ [HO Y1 S1 K1 Z2 Y2 S2 K2]
  iframe HO Y1 S1 K1 Z2 Y2 S2; iexact K2

/-- The arrival of the fourth step is added. -/
theorem part22 {l : List (Fin 3 × Fin 7)} (hl : ∀ x ∈ l, 2 < kLv (some (oKind x))) (w1 w2 : BitVec 32) {Q : _ → sProp 𝕄} :
    recs W κ ⊢ iprop(ow c l -∗ crd 0 c 3 -∗ pos 0 c 3 -∗ crd 1 c 3 -∗ pos 1 c 3 -∗ crd 0 c 4 -∗ pos 0 c 4
      -∗ ((ow c l ∗ zer 0 c 3 ∗ zer 1 c 3 ∗ slotH W c 3 ∗ backH W c 3 ∗ zer 0 c 4) -∗ Q (accC W c))
      -∗ wpB c (onBufs (k0_part22 (F := F)) c w1 w2 (accB W c)) Q) := by
  rw [k0_part22_eq_skeleton]; unfold k0_part22_skel accC
  simp only [Prog.lift, Prog.bind_op, Prog.bind_ret, Prog.pure_eq_ret]
  have hl0 : ∀ x ∈ l, 0 < kLv (some (oKind x)) := fun x hx => Nat.lt_trans (by decide) (hl x hx)
  iintro #HR HO C3 P3 D3 E3 C4 P4 Hk
  iapply (wp_w0 W κ c 3 hl0 rfl) $$ HR HO C3 P3; iintro ⟨HO, Z3⟩
  iapply (wp_w1 W κ c 3 hl rfl) $$ HR HO D3 E3; iintro ⟨HO, Y3, S3, K3⟩
  iapply (wp_loadS W c 3 rfl) $$ S3; iintro S3
  iapply (wp_w0 W κ c 4 hl0 rfl) $$ HR HO C4 P4; iintro ⟨HO, Z4⟩
  iapply (wpB_ret c)
  iapply Hk $$ [HO Z3 Y3 S3 K3 Z4]
  iframe HO Z3 Y3 S3 K3; iexact Z4

/-- The arrivals of the fifth and sixth steps are added. -/
theorem part23 {l : List (Fin 3 × Fin 7)} (hl : ∀ x ∈ l, 2 < kLv (some (oKind x))) (w1 : BitVec 32) {Q : _ → sProp 𝕄} :
    recs W κ ⊢ iprop(ow c l -∗ crd 1 c 4 -∗ pos 1 c 4 -∗ crd 0 c 5 -∗ pos 0 c 5 -∗ crd 1 c 5 -∗ pos 1 c 5 -∗ crd 0 c 6 -∗ pos 0 c 6
      -∗ ((ow c l ∗ zer 1 c 4 ∗ slotH W c 4 ∗ backH W c 4 ∗ zer 0 c 5 ∗ zer 1 c 5 ∗ slotH W c 5 ∗ backH W c 5 ∗ zer 0 c 6) -∗ Q (accD W c))
      -∗ wpB c (onBufs (k0_part23 (F := F)) c w1 (accC W c)) Q) := by
  rw [k0_part23_eq_skeleton]; unfold k0_part23_skel accD
  simp only [Prog.lift, Prog.bind_op, Prog.bind_ret, Prog.pure_eq_ret]
  have hl0 : ∀ x ∈ l, 0 < kLv (some (oKind x)) := fun x hx => Nat.lt_trans (by decide) (hl x hx)
  iintro #HR HO D4 E4 C5 P5 D5 E5 C6 P6 Hk
  iapply (wp_w1 W κ c 4 hl rfl) $$ HR HO D4 E4; iintro ⟨HO, Y4, S4, K4⟩
  iapply (wp_loadS W c 4 rfl) $$ S4; iintro S4
  iapply (wp_w0 W κ c 5 hl0 rfl) $$ HR HO C5 P5; iintro ⟨HO, Z5⟩
  iapply (wp_w1 W κ c 5 hl rfl) $$ HR HO D5 E5; iintro ⟨HO, Y5, S5, K5⟩
  iapply (wp_loadS W c 5 rfl) $$ S5; iintro S5
  iapply (wp_w0 W κ c 6 hl0 rfl) $$ HR HO C6 P6; iintro ⟨HO, Z6⟩
  iapply (wpB_ret c)
  iapply Hk $$ [HO Y4 S4 K4 Z5 Y5 S5 K5 Z6]
  iframe HO Y4 S4 K4 Z5 Y5 S5 K5; iexact Z6

/-- The last arrival is added; the finished rows are stored, and sent to the first peer. -/
theorem part24 {l : List (Fin 3 × Fin 7)} (hl : ∀ x ∈ l, 2 < kLv (some (oKind x))) (w1 w2 w3 w4 : BitVec 32) {Q : _ → sProp 𝕄} :
    recs W κ ⊢ iprop(ow c ((2, 0) :: l) -∗ crd 1 c 6 -∗ pos 1 c 6 -∗ wPts c (vb c) (W c) -∗ agR c 0 -∗ backH W c 0
      -∗ ((ow c l ∗ zer 1 c 6 ∗ slotH W c 6 ∗ backH W c 6 ∗ crd 2 c 0 ∗ agRest W c ∗ agsPay W c 1 ∗ agsPay W c 2 ∗ agsPay W c 3 ∗ agsPay W c 4
            ∗ agsPay W c 5 ∗ agsPay W c 6) -∗ Q ⟨⟩)
      -∗ wpB c (onBufs (k0_part24 (F := F)) c w1 w2 w3 w4 (accD W c)) Q) := by
  rw [k0_part24_eq_skeleton]; unfold k0_part24_skel
  simp only [Prog.lift, Prog.bind_op, Prog.bind_ret, Prog.pure_eq_ret]
  have hl' : ∀ x ∈ (2, 0) :: l, 2 < kLv (some (oKind x)) := fun x hx => (List.mem_cons.mp hx).elim (fun e => by rw [e]; decide) (hl x)
  iintro #HR HO D6 E6 Hw R0 K0 Hk
  iapply (wp_w1 W κ c 6 hl' rfl) $$ HR HO D6 E6; iintro ⟨HO, Y6, S6, K6⟩
  iapply (wp_loadS W c 6 rfl) $$ S6; iintro S6
  iapply (wp_loadB W c) $$ Hw; iintro Hw
  iapply (wp_storeB W c rfl) $$ Hw; iintro Hw
  ihave Hs := (gSplit W c) $$ Hw
  icases Hs with ⟨Hw, G0, G1, G2, G3, G4, G5, G6⟩
  iapply (wp_ag W κ c 0 (dev15_eq c) (off5_eq c) rfl rfl rfl) $$ HR HO R0 G0 K0; iintro ⟨C0, HO⟩
  iapply (wpB_ret c)
  iapply Hk $$ [HO Y6 S6 K6 C0 Hw G1 G2 G3 G4 G5 G6]
  iframe HO Y6 S6 K6 C0 Hw G1 G2 G3 G4 G5; iexact G6

/-- The finished rows are sent to three more peers. -/
theorem part25 {l : List (Fin 3 × Fin 7)} (w1 w2 w3 w4 : BitVec 32) {Q : _ → sProp 𝕄} :
    recs W κ ⊢ iprop(ow c ((2, 1) :: (2, 2) :: (2, 3) :: l) -∗ agR c 1 -∗ agsPay W c 1 -∗ backH W c 1
      -∗ agR c 2 -∗ agsPay W c 2 -∗ backH W c 2 -∗ agR c 3 -∗ agsPay W c 3 -∗ backH W c 3
      -∗ ((ow c l ∗ crd 2 c 1 ∗ crd 2 c 2 ∗ crd 2 c 3) -∗ Q ⟨⟩)
      -∗ wpB c (onBufs (k0_part25 (F := F)) c w1 w2 w3 w4) Q) := by
  rw [k0_part25_eq_skeleton]; unfold k0_part25_skel
  simp only [Prog.lift, Prog.bind_op, Prog.bind_ret, Prog.pure_eq_ret]
  iintro #HR HO R1 W1 B1 R2 W2 B2 R3 W3 B3 Hk
  iapply (wp_ag W κ c 1 (dev16_eq c) (off5_eq c) rfl rfl rfl) $$ HR HO R1 W1 B1; iintro ⟨C1, HO⟩
  iapply (wp_ag W κ c 2 (dev17_eq c) (off5_eq c) rfl rfl rfl) $$ HR HO R2 W2 B2; iintro ⟨C2, HO⟩
  iapply (wp_ag W κ c 3 (dev18_eq c) (off5_eq c) rfl rfl rfl) $$ HR HO R3 W3 B3; iintro ⟨C3, HO⟩
  iapply (wpB_ret c)
  iapply Hk $$ [HO C1 C2 C3]
  iframe HO C1 C2; iexact C3

/-- And to the last three; the first send is done. -/
theorem part26 (w1 w2 w3 w4 : BitVec 32) {Q : _ → sProp 𝕄} :
    recs W κ ⊢ iprop(ow c [(2, 4), (2, 5), (2, 6)] -∗ agR c 4 -∗ agsPay W c 4 -∗ backH W c 4
      -∗ agR c 5 -∗ agsPay W c 5 -∗ backH W c 5 -∗ agR c 6 -∗ agsPay W c 6 -∗ backH W c 6 -∗ crd 2 c 0 -∗ pos 2 c 0
      -∗ ((ow c [] ∗ crd 2 c 4 ∗ crd 2 c 5 ∗ crd 2 c 6 ∗ zer 2 c 0 ∗ agsPay W c 0) -∗ Q ⟨⟩)
      -∗ wpB c (onBufs (k0_part26 (F := F)) c w1 w2 w3 w4) Q) := by
  rw [k0_part26_eq_skeleton]; unfold k0_part26_skel
  simp only [Prog.lift, Prog.bind_op, Prog.bind_ret, Prog.pure_eq_ret]
  iintro #HR HO R1 W1 B1 R2 W2 B2 R3 W3 B3 C0 P0 Hk
  iapply (wp_ag W κ c 4 (dev19_eq c) (off5_eq c) rfl rfl rfl) $$ HR HO R1 W1 B1; iintro ⟨C1, HO⟩
  iapply (wp_ag W κ c 5 (dev20_eq c) (off5_eq c) rfl rfl rfl) $$ HR HO R2 W2 B2; iintro ⟨C2, HO⟩
  iapply (wp_ag W κ c 6 (dev21_eq c) (off5_eq c) rfl rfl rfl) $$ HR HO R3 W3 B3; iintro ⟨C3, HO⟩
  iapply (wp_w2 W κ c 0 (List.forall_mem_nil _) rfl) $$ HR HO C0 P0; iintro ⟨HO, Z0, G0⟩
  iapply (wpB_ret c)
  iapply Hk $$ [HO C1 C2 C3 Z0 G0]
  iframe HO C1 C2 C3 Z0; iexact G0

/-- Arrivals of the first steps, and the sends of the next ones done. -/
theorem part27 (w1 w2 : BitVec 32) {Q : _ → sProp 𝕄} :
    recs W κ ⊢ iprop(ow c [] -∗ crd 3 c 0 -∗ pos 3 c 0 -∗ crd 2 c 1 -∗ pos 2 c 1 -∗ crd 3 c 1 -∗ pos 3 c 1 -∗ crd 2 c 2 -∗ pos 2 c 2 -∗ crd 3 c 2 -∗ pos 3 c 2
      -∗ ((ow c [] ∗ zer 3 c 0 ∗ agPay W c 0 ∗ zer 2 c 1 ∗ agsPay W c 1 ∗ zer 3 c 1 ∗ agPay W c 1 ∗ zer 2 c 2 ∗ agsPay W c 2 ∗ zer 3 c 2 ∗ agPay W c 2) -∗ Q ⟨⟩)
      -∗ wpB c (onBufs (k0_part27 (F := F)) c w1 w2) Q) := by
  rw [k0_part27_eq_skeleton]; unfold k0_part27_skel
  simp only [Prog.lift, Prog.bind_op, Prog.bind_ret, Prog.pure_eq_ret]
  iintro #HR HO D0 E0 C1 P1 D1 E1 C2 P2 D2 E2 Hk
  iapply (wp_w3 W κ c 0 (List.forall_mem_nil _) rfl) $$ HR HO D0 E0; iintro ⟨HO, Y0, A0⟩
  iapply (wp_w2 W κ c 1 (List.forall_mem_nil _) rfl) $$ HR HO C1 P1; iintro ⟨HO, Z1, G1⟩
  iapply (wp_w3 W κ c 1 (List.forall_mem_nil _) rfl) $$ HR HO D1 E1; iintro ⟨HO, Y1, A1⟩
  iapply (wp_w2 W κ c 2 (List.forall_mem_nil _) rfl) $$ HR HO C2 P2; iintro ⟨HO, Z2, G2⟩
  iapply (wp_w3 W κ c 2 (List.forall_mem_nil _) rfl) $$ HR HO D2 E2; iintro ⟨HO, Y2, A2⟩
  iapply (wpB_ret c)
  iapply Hk $$ [HO Y0 A0 Z1 G1 Y1 A1 Z2 G2 Y2 A2]
  iframe HO Y0 A0 Z1 G1 Y1 A1 Z2 G2 Y2; iexact A2

/-- Further ones. -/
theorem part28 (w1 w2 w3 : BitVec 32) {Q : _ → sProp 𝕄} :
    recs W κ ⊢ iprop(ow c [] -∗ crd 2 c 3 -∗ pos 2 c 3 -∗ crd 3 c 3 -∗ pos 3 c 3 -∗ crd 2 c 4 -∗ pos 2 c 4 -∗ crd 3 c 4 -∗ pos 3 c 4 -∗ crd 2 c 5 -∗ pos 2 c 5
      -∗ ((ow c [] ∗ zer 2 c 3 ∗ agsPay W c 3 ∗ zer 3 c 3 ∗ agPay W c 3 ∗ zer 2 c 4 ∗ agsPay W c 4 ∗ zer 3 c 4 ∗ agPay W c 4 ∗ zer 2 c 5 ∗ agsPay W c 5) -∗ Q ⟨⟩)
      -∗ wpB c (onBufs (k0_part28 (F := F)) c w1 w2 w3) Q) := by
  rw [k0_part28_eq_skeleton]; unfold k0_part28_skel
  simp only [Prog.lift, Prog.bind_op, Prog.bind_ret, Prog.pure_eq_ret]
  iintro #HR HO C3 P3 D3 E3 C4 P4 D4 E4 C5 P5 Hk
  iapply (wp_w2 W κ c 3 (List.forall_mem_nil _) rfl) $$ HR HO C3 P3; iintro ⟨HO, Z3, G3⟩
  iapply (wp_w3 W κ c 3 (List.forall_mem_nil _) rfl) $$ HR HO D3 E3; iintro ⟨HO, Y3, A3⟩
  iapply (wp_w2 W κ c 4 (List.forall_mem_nil _) rfl) $$ HR HO C4 P4; iintro ⟨HO, Z4, G4⟩
  iapply (wp_w3 W κ c 4 (List.forall_mem_nil _) rfl) $$ HR HO D4 E4; iintro ⟨HO, Y4, A4⟩
  iapply (wp_w2 W κ c 5 (List.forall_mem_nil _) rfl) $$ HR HO C5 P5; iintro ⟨HO, Z5, G5⟩
  iapply (wpB_ret c)
  iapply Hk $$ [HO Z3 G3 Y3 A3 Z4 G4 Y4 A4 Z5 G5]
  iframe HO Z3 G3 Y3 A3 Z4 G4 Y4 A4 Z5; iexact G5

end Cert.Attn
-- ==== Proof.Body3.lean ====
/-
# The body, whole

The pieces put together: from what a device starts with to what it ends with, the gathered rows in the output's staging.
-/
module

public import proofs.«01_k».proof.Proof.Body2

@[expose] public section

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight Flight_mono shareTok shareDrop)
open Idealize.ShloMosaic.ValueIdx (ix2 ix3 ix4)

variable {F : FTy → Type} [FloatOps F]

local notation "𝕄" => MT nD τ sig Unit (Elt F) ℕ UU ℕ

variable (W : Dev nD → WC F) (κ : Dev nD × CK → ℕ) (I : Inp F) (c : Dev nD)

theorem wpB_bind {α β : Type} {p : Prog (TpuEff nD τ sig (Elt F) Λ₀ .tc) α} {k : α → Prog (TpuEff nD τ sig (Elt F) Λ₀ .tc) β} {Q : β → sProp 𝕄} :
    wpB c p (fun a => wpB c (k a) Q) ⊢ wpB c (p >>= k) Q := by
  unfold wpB; rw [wp_bind]

/-- A product over the eight heads, written out. -/
abbrev sep8 (Φ : Fin 8 → sProp 𝕄) : sProp 𝕄 := iprop(Φ 0 ∗ Φ 1 ∗ Φ 2 ∗ Φ 3 ∗ Φ 4 ∗ Φ 5 ∗ Φ 6 ∗ Φ 7)
theorem bigSep8 (Φ : Fin 8 → sProp 𝕄) : bigSep Finset.univ Φ = sep8 Φ :=
  bigSep_univ_eq_bigSepL [0, 1, 2, 3, 4, 5, 6, 7] (by decide) (by decide) Φ

/-- What the local copies start from, and what they leave. -/
def locIn : sProp 𝕄 := iprop(newQ c I.wq ∗ newO c I.wo ∗ sep8 (newK c I.k) ∗ sep8 (newV c I.v))
def locOut : sProp 𝕄 := iprop(hasQ c I.wq ∗ endQ c I.wq ∗ hasO c I.wo ∗ endO c I.wo ∗ sep8 (hasK c I.k) ∗ sep8 (endK c I.k) ∗ sep8 (hasV c I.v) ∗ sep8 (endV c I.v))
/-- What the barrier uses. -/
def barIn : sProp 𝕄 := iprop(sep7 (sigR c) ∗ cred (tallyAt (barC c) () 7) ∗ atPos ER (barC c) 0 ∅ 0)
/-- What the scatter and the gather use. -/
def exIn : sProp 𝕄 := iprop(sep7 (rsR c) ∗ sep7 (agR c) ∗ sep7 (crd 1 c) ∗ sep7 (crd 3 c) ∗ sep7 (pos 0 c) ∗ sep7 (pos 1 c) ∗ sep7 (pos 2 c) ∗ sep7 (pos 3 c))
/-- What the exchange leaves: every semaphore at zero, the slots filled, all rows in place. -/
def exOut : sProp 𝕄 := iprop(semVal (barC c) 0 ∗ sep7 (zer 0 c) ∗ sep7 (zer 1 c) ∗ sep7 (zer 2 c) ∗ sep7 (zer 3 c) ∗ sep7 (slotH W c) ∗ wL c ↦{fullShare} gath W)

set_option maxHeartbeats 4000000 in
/-- All pieces but the store of the result. -/
theorem part29 (hW : part I c = W c) {Q : _ → sProp 𝕄} :
    recs W κ ⊢ iprop(ow c debts -∗ locIn I c -∗ barIn c -∗ exIn c -∗ hasX I c -∗ anyW c
      -∗ ((ow c [] ∗ locOut I c ∗ exOut W c ∗ hasX I c) -∗ Q (k0_pay36 (ldG W)))
      -∗ wpB c (onBufs (k0_part29 (F := F))) Q) := by
  rw [k0_part29_eq_skeleton]; unfold k0_part29_skel locIn barIn exIn debts
  simp only [Prog.lift, Prog.pure_eq_ret]
  iintro #HR HO ⟨NQ, NO, ⟨K0, K1, K2, K3, K4, K5, K6, K7⟩, V0, V1, V2, V3, V4, V5, V6, V7⟩ ⟨⟨S0, S1, S2, S3, S4, S5, S6⟩, Bc, Ba⟩ ⟨HRS, HAG, HC1, HC3, HP0, HP1, HP2, HP3⟩ HX HA Hk
  iapply (wpB_bind c); iapply (part1 c); iintro %w1 %w2 %w3 %w4 %w5 %w6 %w7 %w8 %w9
  dsimp only
  iapply (wpB_bind c); iapply (part2 I c) $$ NQ NO K0 V0; iintro ⟨NQ, NO, K0, V0⟩ %r
  obtain ⟨w10, w11⟩ := r
  dsimp only
  iapply (wpB_bind c); iapply (part3 I c) $$ K1 V1 K2 V2; iintro ⟨K1, V1, K2, V2⟩
  iapply (wpB_bind c); iapply (part4 I c) $$ K3 V3 K4 V4; iintro ⟨K3, V3, K4, V4⟩
  iapply (wpB_bind c); iapply (part5 I c) $$ K5 V5 K6 V6; iintro ⟨K5, V5, K6, V6⟩
  iapply (wpB_bind c); iapply (part6 W κ I c) $$ HR HO K7 V7 S0 S1 S2 S3 S4; iintro ⟨HO, K7, V7⟩
  iapply (wpB_bind c); iapply (part7 W κ c _ (by decide)) $$ HR HO S5 S6 Bc Ba; iintro ⟨HO, Bz, Bp⟩
  dsimp only
  iapply (wpB_bind c); iapply (part8 W κ I c _ (by decide)) $$ HR HO NQ HX; iintro ⟨HO, NQ, EQ, HX⟩
  dsimp only
  iapply (wpB_bind c); iapply (part9 W κ I c _ (by decide)) $$ HR HO K0 V0 NO; iintro ⟨HO, K0, X0, V0, Y0, NO, EO⟩
  dsimp only
  iapply (wpB_bind c); iapply (part10 W κ I c _ (by decide)) $$ HR HO NO K1 V1; iintro ⟨HO, NO, K1, X1, V1, Y1⟩
  dsimp only
  iapply (wpB_bind c); iapply (part11 W κ I c _ (by decide)) $$ HR HO NO K2 V2; iintro ⟨HO, NO, K2, X2, V2, Y2⟩
  dsimp only
  iapply (wpB_bind c); iapply (part12 W κ I c _ (by decide)) $$ HR HO NO V2 K3 V3; iintro ⟨HO, NO, V2, K3, X3, V3, Y3⟩
  dsimp only
  iapply (wpB_bind c); iapply (part13 W κ I c _ (by decide)) $$ HR HO NO V3 K4 V4; iintro ⟨HO, NO, V3, K4, X4, V4, Y4⟩
  dsimp only
  iapply (wpB_bind c); iapply (part14 W κ I c _ (by decide)) $$ HR HO NO V4 K5 V5; iintro ⟨HO, NO, V4, K5, X5, V5, Y5⟩
  dsimp only
  iapply (wpB_bind c); iapply (part15 W κ I c _ (by decide)) $$ HR HO NO V5 K6 V6; iintro ⟨HO, NO, V5, K6, X6, V6, Y6⟩
  dsimp only
  iapply (wpB_bind c); iapply (part16 W κ I c _ (by decide)) $$ HR HO NO V6 K7 V7; iintro ⟨HO, NO, V6, K7, X7, V7, Y7⟩
  dsimp only
  ihave Bp' := (Entails.of_eq (bigSep7 _)) $$ Bp
  icases Bp' with ⟨B0, B1, B2, B3, B4, B5, B6⟩
  icases HRS with ⟨R0, R1, R2, R3, R4, R5, R6⟩
  iapply (wpB_bind c); iapply (part17 W κ I c _ _ _ _ _ _ hW) $$ HR HO V7 NO HA R0 B0; iintro ⟨HO, V7, NO, C0, Hw, W1, W2, W3, W4, W5, W6⟩ %r17
  ihave Hloc := (show iprop(hasQ c I.wq ∗ endQ c I.wq ∗ hasO c I.wo ∗ endO c I.wo ∗ sep8 (hasK c I.k) ∗ sep8 (endK c I.k) ∗ sep8 (hasV c I.v) ∗ sep8 (endV c I.v)) ⊢ locOut I c from .rfl) $$ [NQ EQ NO EO K0 K1 K2 K3 K4 K5 K6 K7 X0 X1 X2 X3 X4 X5 X6 X7 V0 V1 V2 V3 V4 V5 V6 V7 Y0 Y1 Y2 Y3 Y4 Y5 Y6 Y7]
  · iframe NQ EQ NO EO K0 K1 K2 K3 K4 K5 K6 K7 X0 X1 X2 X3 X4 X5 X6 X7 V0 V1 V2 V3 V4 V5 V6 V7 Y0 Y1 Y2 Y3 Y4 Y5 Y6; iexact Y7
  iapply (wpB_bind c); iapply (part18 W κ c) $$ HR HO R1 W1 B1 R2 W2 B2 R3 W3 B3; iintro ⟨HO, C1, C2, C3⟩ %r18
  iapply (wpB_bind c); iapply (part19 W κ c) $$ HR HO R4 W4 B4 R5 W5 B5; iintro ⟨HO, C4, C5⟩
  icases HC1 with ⟨D0, D1, D2, D3, D4, D5, D6⟩
  icases HP0 with ⟨P0, P1, P2, P3, P4, P5, P6⟩
  icases HP1 with ⟨E0, E1, E2, E3, E4, E5, E6⟩
  iapply (wpB_bind c); iapply (part20 W κ c (by decide)) $$ HR HO R6 W6 B6 Hw C0 P0 D0 E0 C1 P1; iintro ⟨HO, C6, Hw, Z0, U0, L0, M0, Z1⟩
  iapply (wpB_bind c); iapply (part21 W κ c (by decide)) $$ HR HO D1 E1 C2 P2 D2 E2; iintro ⟨HO, U1, L1, M1, Z2, U2, L2, M2⟩
  iapply (wpB_bind c); iapply (part22 W κ c (by decide)) $$ HR HO C3 P3 D3 E3 C4 P4; iintro ⟨HO, Z3, U3, L3, M3, Z4⟩
  iapply (wpB_bind c); iapply (part23 W κ c (by decide)) $$ HR HO D4 E4 C5 P5 D5 E5 C6 P6; iintro ⟨HO, U4, L4, M4, Z5, U5, L5, M5, Z6⟩
  icases HAG with ⟨R0, R1, R2, R3, R4, R5, R6⟩
  iapply (wpB_bind c); iapply (part24 W κ c (by decide)) $$ HR HO D6 E6 Hw R0 M0; iintro ⟨HO, U6, L6, M6, C0, Hw, G1, G2, G3, G4, G5, G6⟩
  ihave Hsl := (show iprop(sep7 (zer 0 c) ∗ sep7 (zer 1 c) ∗ sep7 (slotH W c)) ⊢ iprop(sep7 (zer 0 c) ∗ sep7 (zer 1 c) ∗ sep7 (slotH W c)) from .rfl) $$ [Z0 Z1 Z2 Z3 Z4 Z5 Z6 U0 U1 U2 U3 U4 U5 U6 L0 L1 L2 L3 L4 L5 L6]
  · iframe Z0 Z1 Z2 Z3 Z4 Z5 Z6 U0 U1 U2 U3 U4 U5 U6 L0 L1 L2 L3 L4 L5; iexact L6
  icases Hsl with ⟨HZ0, HZ1, HSl⟩
  iapply (wpB_bind c); iapply (part25 W κ c) $$ HR HO R1 G1 M1 R2 G2 M2 R3 G3 M3; iintro ⟨HO, C1, C2, C3⟩
  icases HP2 with ⟨P0, P1, P2, P3, P4, P5, P6⟩
  iapply (wpB_bind c); iapply (part26 W κ c) $$ HR HO R4 G4 M4 R5 G5 M5 R6 G6 M6 C0 P0; iintro ⟨HO, C4, C5, C6, Z0, G0⟩
  icases HC3 with ⟨D0, D1, D2, D3, D4, D5, D6⟩
  icases HP3 with ⟨E0, E1, E2, E3, E4, E5, E6⟩
  iapply (wpB_bind c); iapply (part27 W κ c) $$ HR HO D0 E0 C1 P1 D1 E1 C2 P2 D2 E2; iintro ⟨HO, U0, A0, Z1, G1, U1, A1, Z2, G2, U2, A2⟩
  iapply (wpB_bind c); iapply (part28 W κ c) $$ HR HO C3 P3 D3 E3 C4 P4 D4 E4 C5 P5; iintro ⟨HO, Z3, G3, U3, A3, Z4, G4, U4, A4, Z5, G5⟩
  simp only [Prog.bind_op, Prog.bind_ret]
  iapply (wp_w3 W κ c 5 (List.forall_mem_nil _) rfl) $$ HR HO D5 E5; iintro ⟨HO, U5, A5⟩
  iapply (wp_w2 W κ c 6 (List.forall_mem_nil _) rfl) $$ HR HO C6 P6; iintro ⟨HO, Z6, G6⟩
  iapply (wp_w3 W κ c 6 (List.forall_mem_nil _) rfl) $$ HR HO D6 E6; iintro ⟨HO, U6, A6⟩
  ihave Hg := (gJoin W c) $$ [Hw G0 G1 G2 G3 G4 G5 G6 A0 A1 A2 A3 A4 A5 A6]
  · iframe Hw G0 G1 G2 G3 G4 G5 G6 A0 A1 A2 A3 A4 A5; iexact A6
  iapply (wp_loadG W c) $$ Hg; iintro Hg
  iapply (wpB_ret c)
  iapply Hk $$ [HO Hloc Bz HZ0 HZ1 Z0 Z1 Z2 Z3 Z4 Z5 Z6 U0 U1 U2 U3 U4 U5 U6 HSl Hg HX]
  unfold exOut
  iframe HO Hloc Bz HZ0 HZ1 Z0 Z1 Z2 Z3 Z4 Z5 Z6 U0 U1 U2 U3 U4 U5 U6 HSl Hg; iexact HX

/-- The output's staging. -/
abbrev oM : Memref sig .tc .vmem S1x256x1024 .f32 := Memref.whole cc0_stg1_0
/-- What the kernel leaves there. -/
def outV : Con F cc0_stg1_0 := k0_pay1 (k0_pay36 (ldG W))
theorem wp_readO {α : Type} {Q : α → sProp 𝕄} {k : Vec F S1x256x1024 .f32 → Prog (TpuEff nD τ sig (Elt F) Λ₀ .tc) α}
    {h} {hl : oM.view.LoadsAt (Rect.unit (s := S1x256x1024) ![0, 0, 0] S1x256x1024.size h).toLoadRect} (f : Con F cc0_stg1_0) :
    (loc c cc0_stg1_0 ↦{fullShare} f) ⊢ iprop(((loc c cc0_stg1_0 ↦{fullShare} f) -∗ wpB c (k (oM.view.readAt (Elt F) (Rect.unit (s := S1x256x1024) ![0, 0, 0] S1x256x1024.size h).toLoadRect f)) Q)
      -∗ wpB c (.op (.load oM (Rect.unit (s := S1x256x1024) ![0, 0, 0] S1x256x1024.size h).toLoadRect hl) k) Q) :=
  wp_load 𝒱₀ (c : Thread nD τ) none Set.univ (m := oM) (Finset.subset_univ _)
theorem wp_storeO {α : Type} {Q : α → sProp 𝕄} {k : PUnit → Prog (TpuEff nD τ sig (Elt F) Λ₀ .tc) α}
    {h} {v : Vec F S1x256x1024 .f32} {hx : (oM.access (Rect.unit (s := S1x256x1024) ![0, 0, 0] S1x256x1024.size h)).Stores Finset.univ} {hm} (f : Con F cc0_stg1_0) :
    (loc c cc0_stg1_0 ↦{fullShare} f) ⊢ iprop(((loc c cc0_stg1_0 ↦{fullShare} v) -∗ wpB c (k ⟨⟩) Q) -∗ wpB c (.op (.store oM (Rect.unit (s := S1x256x1024) ![0, 0, 0] S1x256x1024.size h) v Finset.univ hx hm) k) Q) := by
  iintro H Hk
  have e := Memref.write_access_unit_zero_univ (Elt F) cc0_stg1_0 hz3 h f v
  iapply (wp_store (Γ := .empty) 𝒱₀ (c : Thread nD τ) none Set.univ (m := oM) (r := Rect.unit (s := S1x256x1024) ![0, 0, 0] S1x256x1024.size h) (Mk := Finset.univ) (Finset.subset_univ _)) $$ H
  iintro H
  iapply Hk
  iapply (Entails.of_eq (congrArg (fun g => (loc c cc0_stg1_0 ↦{fullShare} g : sProp 𝕄)) e)) $$ H

/-- The body: from a device's start to its end. -/
theorem sound_kernel (hW : part I c = W c) {Q : _ → sProp 𝕄} :
    recs W κ ⊢ iprop(ow c debts -∗ locIn I c -∗ barIn c -∗ exIn c -∗ hasX I c -∗ anyW c -∗ (∃ f : Con F cc0_stg1_0, loc c cc0_stg1_0 ↦{fullShare} f)
      -∗ ((ow c [] ∗ locOut I c ∗ exOut W c ∗ hasX I c ∗ loc c cc0_stg1_0 ↦{fullShare} outV W) -∗ Q ⟨⟩)
      -∗ wpB c (onBufs (cc0_body (F := F))) Q) := by
  rw [cc0_body_eq_skeleton]; unfold cc0_body_skel
  simp only [Prog.lift, Prog.pure_eq_ret]
  iintro #HR HO HL HB HE HX HA ⟨%f, Ho⟩ Hk
  iapply (wpB_bind c); iapply (part29 W κ I c hW) $$ HR HO HL HB HE HX HA; iintro ⟨HO, HL, HE, HX⟩
  simp only [Prog.bind_op, Prog.bind_ret]
  iapply (wp_readO c f) $$ Ho; iintro Ho
  iapply (wp_storeO c f) $$ Ho; iintro Ho
  iapply (wpB_ret c)
  iapply Hk $$ [HO HL HE HX Ho]
  unfold outV
  iframe HO HL HE HX; iexact Ho

end Cert.Attn
-- ==== Proof.Start.lean ====
/-
# What the launch hands a device, sorted for the body

The arguments and scratch buffers whole on one side; on the other the parts the copies take, head by head. The
semaphores a device owns: the eighteen of its local copies and the twenty-eight of the exchange.
-/
module

public import proofs.«01_k».proof.Proof.Body3

@[expose] public section

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3 ix4)

variable {F : FTy → Type} [FloatOps F]

local notation "𝕄" => MT nD τ sig Unit (Elt F) ℕ UU ℕ

variable (I : Inp F) (c : Dev nD)

/-! ## Buffers in parts -/

/-- A buffer, whole, is its parts, where the parts are disjoint and cover it. -/
theorem pts_parts {ℓ : Loc nD τ sig} {n : ℕ} (S : Fin n → Finset (Idx ℓ)) (hd : ∀ i j, i ≠ j → Disjoint (S i) (S j))
    (hc : (Finset.univ : Finset (Idx ℓ)) = Finset.univ.biUnion S) (f : Buf (Elt F) ℓ) :
    (ℓ ↦{fullShare} f : sProp 𝕄) = bigSep Finset.univ fun i => ℓ ↦[S i]{fullShare} f := by
  have e := pointsTo_biUnion (Ix := Unit) (Name := ℕ) (U := UU) (Lvl := ℕ) (ℓ := ℓ) (q := fullShare) (f := f) Finset.univ S
    fun i _ j _ h => hd i j h
  rw [← hc] at e
  exact e
/-- A buffer, whole, is a part and the rest. -/
theorem pts_split {ℓ : Loc nD τ sig} (S : Finset (Idx ℓ)) (f : Buf (Elt F) ℓ) :
    (ℓ ↦{fullShare} f : sProp 𝕄) ⊣⊢ iprop((ℓ ↦[S]{fullShare} f) ∗ ℓ ↦[Sᶜ]{fullShare} f) := by
  have u := pointsTo_union (Ix := Unit) (Name := ℕ) (U := UU) (Lvl := ℕ) (ℓ := ℓ) (q := fullShare) (f := f) (disjoint_compl_right (a := S))
  rw [show S ∪ Sᶜ = Finset.univ from Finset.union_compl S] at u
  exact u

theorem head_disjoint (b b' : Fin 8) (h : b ≠ b') : Disjoint (head b) (head b') :=
  Finset.disjoint_left.mpr fun i hi hi' => h (Fin.ext ((mem_head.mp hi).symm.trans (mem_head.mp hi')))
theorem headA_disjoint (b b' : Fin 8) (h : b ≠ b') : Disjoint (headA b) (headA b') :=
  Finset.disjoint_left.mpr fun i hi hi' => h (Fin.ext ((mem_headA.mp hi).symm.trans (mem_headA.mp hi')))
theorem head_cover : (Finset.univ : Finset S8x4096x128.Idx) = Finset.univ.biUnion head := by
  ext i
  simp only [Finset.mem_univ, Finset.mem_biUnion, true_and, true_iff]
  exact ⟨i 0, mem_head.mpr rfl⟩
theorem headA_cover : (Finset.univ : Finset S1x4096x8x128.Idx) = Finset.univ.biUnion headA := by
  ext i
  simp only [Finset.mem_univ, Finset.mem_biUnion, true_and, true_iff]
  exact ⟨i 2, mem_headA.mpr rfl⟩

theorem k_heads (f : Con F cc0_scratch2) : (loc c cc0_scratch2 ↦{fullShare} f : sProp 𝕄) = sep8 fun b => loc c cc0_scratch2 ↦[head b]{fullShare} f :=
  (pts_parts (ℓ := loc c cc0_scratch2) head head_disjoint head_cover f).trans (bigSep8 _)
theorem v_heads (f : Con F cc0_scratch3) : (loc c cc0_scratch3 ↦{fullShare} f : sProp 𝕄) = sep8 fun b => loc c cc0_scratch3 ↦[head b]{fullShare} f :=
  (pts_parts (ℓ := loc c cc0_scratch3) head head_disjoint head_cover f).trans (bigSep8 _)
theorem a2_heads (f : Con F main_arg2) : (loc c main_arg2 ↦{fullShare} f : sProp 𝕄) = sep8 fun b => loc c main_arg2 ↦[headA b]{fullShare} f :=
  (pts_parts (ℓ := loc c main_arg2) headA headA_disjoint headA_cover f).trans (bigSep8 _)
theorem a3_heads (f : Con F main_arg3) : (loc c main_arg3 ↦{fullShare} f : sProp 𝕄) = sep8 fun b => loc c main_arg3 ↦[headA b]{fullShare} f :=
  (pts_parts (ℓ := loc c main_arg3) headA headA_disjoint headA_cover f).trans (bigSep8 _)

theorem sep8_sep (A B : Fin 8 → sProp 𝕄) : sep8 (fun b => iprop(A b ∗ B b)) = iprop(sep8 A ∗ sep8 B) := by
  rw [← bigSep8, ← bigSep8, ← bigSep8, bigSep_sep']
theorem sep7_sep (A B : Fin 7 → sProp 𝕄) : sep7 (fun b => iprop(A b ∗ B b)) = iprop(sep7 A ∗ sep7 B) := by
  rw [← bigSep7, ← bigSep7, ← bigSep7, bigSep_sep']
theorem sep8_some (A : Fin 8 → Con F cc0_scratch2 → sProp 𝕄) (f : Con F cc0_scratch2) : sep8 (fun b => A b f) ⊢ sep8 fun b => iprop(∃ g, A b g) := by
  rw [← bigSep8, ← bigSep8]
  exact bigSep_mono fun b _ => show A b f ⊢ (iprop(∃ g, A b g) : sProp 𝕄) from by iintro H; iexists f; iexact H

/-! ## The semaphores a device owns -/

/-- The local copies' semaphores by what they copy; the exchange's by array and step. -/
abbrev OK : Type := (Fin 2 ⊕ (Fin 8 ⊕ Fin 8)) ⊕ (Fin 4 × Fin 7)
def smW (i : Fin 2) : DmaSem sig := ⟨2 + i.val, by have := i.isLt; show _ < 48; omega⟩
abbrev osem : OK → SemLoc sig
  | .inl (.inl i) => .dma (smW i)
  | .inl (.inr (.inl h)) => .dma (smK h)
  | .inl (.inr (.inr h)) => .dma (smV h)
  | .inr (t, j) => .dma (dsem t j)

/-- The local copies' semaphores at zero. -/
def locals (c : Dev nD) : sProp 𝕄 :=
  iprop((semVal ((c : Thread nD τ), .dma smQ) 0 ∗ semVal ((c : Thread nD τ), .dma smO) 0)
    ∗ (sep8 fun b => semVal ((c : Thread nD τ), .dma (smK b)) 0) ∗ sep8 fun b => semVal ((c : Thread nD τ), .dma (smV b)) 0)

theorem ownSems0_eq : (Pipeline.ownSems0 (Ix := Unit) (Name := ℕ) (U := UU) (Lvl := ℕ) (Val := Elt F) (τ := τ) osem c : sProp 𝕄)
    = iprop(locals c ∗ bigSep Finset.univ fun tj : Fin 4 × Fin 7 => semVal (xC tj.1 c tj.2) 0) := by
  unfold Pipeline.ownSems0 locals
  rw [bigSep_univ_sum, bigSep_univ_sum, bigSep_univ_sum, bigSep_fin_two, bigSep8, bigSep8]
  rfl
theorem unscopedSems0_eq : (unscopedSems0 c : sProp 𝕄) = semVal (barC c) 0 := by
  unfold unscopedSems0; rw [bigSep_eq_bigSepL_of_eq [SemLoc.reg barS] (by decide) (by decide)]; rfl

/-! ## In and out of the body -/

/-- The four arguments the kernel copies from, whole. -/
def argPts : sProp 𝕄 :=
  iprop((loc c main_arg1 ↦{fullShare} I.wq) ∗ (loc c main_arg2 ↦{fullShare} I.k) ∗ (loc c main_arg3 ↦{fullShare} I.v) ∗ loc c main_arg4 ↦{fullShare} I.wo)
/-- The parts of the weights the device does not copy. -/
def restW : sProp 𝕄 :=
  iprop((loc c main_arg1 ↦[((a1V c).view.set)ᶜ]{fullShare} I.wq) ∗ loc c main_arg4 ↦[((a4V c).view.set)ᶜ]{fullShare} I.wo)
/-- The buffers the local copies fill, at any contents. -/
def scr4 (c : Dev nD) : sProp 𝕄 :=
  iprop((∃ f : Con F cc0_scratch0, loc c cc0_scratch0 ↦{fullShare} f) ∗ (∃ f : Con F cc0_scratch1, loc c cc0_scratch1 ↦{fullShare} f)
    ∗ (∃ f : Con F cc0_scratch2, loc c cc0_scratch2 ↦{fullShare} f) ∗ (∃ f : Con F cc0_scratch3, loc c cc0_scratch3 ↦{fullShare} f))

theorem newK_all (f : Con F main_arg2) :
    iprop((loc c main_arg2 ↦{fullShare} f) ∗ (∃ g : Con F cc0_scratch2, loc c cc0_scratch2 ↦{fullShare} g) ∗ sep8 fun b => semVal ((c : Thread nD τ), .dma (smK b)) 0)
      ⊢ (sep8 (newK c f) : sProp 𝕄) := by
  have e : sep8 (newK c f) = iprop((sep8 fun b => loc c main_arg2 ↦[headA b]{fullShare} f)
      ∗ (sep8 fun b => iprop(∃ g : Con F cc0_scratch2, loc c cc0_scratch2 ↦[head b]{fullShare} g)) ∗ sep8 fun b => semVal ((c : Thread nD τ), .dma (smK b)) 0) := by
    rw [← sep8_sep, ← sep8_sep]; rfl
  rw [e, a2_heads]
  iintro ⟨H1, ⟨%g, H2⟩, H3⟩
  isplitl [H1]; · iexact H1
  isplitl [H2]
  · iapply (sep8_some (fun b g => loc c cc0_scratch2 ↦[head b]{fullShare} g) g)
    iapply (Entails.of_eq (k_heads c g)) $$ H2
  iexact H3
theorem newV_all (f : Con F main_arg3) :
    iprop((loc c main_arg3 ↦{fullShare} f) ∗ (∃ g : Con F cc0_scratch3, loc c cc0_scratch3 ↦{fullShare} g) ∗ sep8 fun b => semVal ((c : Thread nD τ), .dma (smV b)) 0)
      ⊢ (sep8 (newV c f) : sProp 𝕄) := by
  have e : sep8 (newV c f) = iprop((sep8 fun b => loc c main_arg3 ↦[headA b]{fullShare} f)
      ∗ (sep8 fun b => iprop(∃ g : Con F cc0_scratch3, loc c cc0_scratch3 ↦[head b]{fullShare} g)) ∗ sep8 fun b => semVal ((c : Thread nD τ), .dma (smV b)) 0) := by
    rw [← sep8_sep, ← sep8_sep]; rfl
  rw [e, a3_heads]
  iintro ⟨H1, ⟨%g, H2⟩, H3⟩
  isplitl [H1]; · iexact H1
  isplitl [H2]
  · iapply (sep8_some (fun b g => loc c cc0_scratch3 ↦[head b]{fullShare} g) g)
    iapply (Entails.of_eq (v_heads c g)) $$ H2
  iexact H3
theorem endK_all (f : Con F main_arg2) :
    (sep8 (endK c f) : sProp 𝕄) = iprop((loc c main_arg2 ↦{fullShare} f) ∗ sep8 fun b => semVal ((c : Thread nD τ), .dma (smK b)) 0) := by
  rw [a2_heads, ← sep8_sep]; rfl
theorem endV_all (f : Con F main_arg3) :
    (sep8 (endV c f) : sProp 𝕄) = iprop((loc c main_arg3 ↦{fullShare} f) ∗ sep8 fun b => semVal ((c : Thread nD τ), .dma (smV b)) 0) := by
  rw [a3_heads, ← sep8_sep]; rfl

/-- What the launch hands over is what the local copies start from, and the rest of the weights. -/
theorem loc_intro : iprop(argPts I c ∗ scr4 c ∗ locals c) ⊢ iprop(locIn I c ∗ restW I c) := by
  unfold argPts scr4 locals locIn restW newQ newO
  iintro ⟨⟨A1, A2, A3, A4⟩, ⟨S0, S1, S2, S3⟩, ⟨Zq, Zo⟩, Zk, Zv⟩
  ihave A1 := ((pts_split (ℓ := loc c main_arg1) (a1V c).view.set I.wq).1) $$ A1
  ihave A4 := ((pts_split (ℓ := loc c main_arg4) (a4V c).view.set I.wo).1) $$ A4
  icases A1 with ⟨A1, B1⟩
  icases A4 with ⟨A4, B4⟩
  ihave K := (newK_all c I.k) $$ [A2 S2 Zk]
  · iframe A2 S2; iexact Zk
  ihave V := (newV_all c I.v) $$ [A3 S3 Zv]
  · iframe A3 S3; iexact Zv
  isplitl [A1 A4 S0 S1 Zq Zo K V]
  · isplitl [A1 S0 Zq]
    · isplitl [A1]; · iexact A1
      isplitl [S0]; · iexact S0
      iexact Zq
    isplitl [A4 S1 Zo]
    · isplitl [A4]; · iexact A4
      isplitl [S1]; · iexact S1
      iexact Zo
    isplitl [K]; · iexact K
    iexact V
  isplitl [B1]; · iexact B1
  iexact B4

/-- And back. -/
theorem loc_elim : iprop(locOut I c ∗ restW I c) ⊢ iprop(argPts I c ∗ scr4 c ∗ locals c) := by
  unfold argPts scr4 locals locOut restW hasQ hasO endQ endO
  rw [endK_all, endV_all]
  iintro ⟨⟨Q, ⟨A1, Zq⟩, O, ⟨A4, Zo⟩, K, ⟨A2, Zk⟩, V, ⟨A3, Zv⟩⟩, B1, B4⟩
  ihave A1 := ((pts_split (ℓ := loc c main_arg1) (a1V c).view.set I.wq).2) $$ [A1 B1]
  · isplitl [A1]; · iexact A1
    iexact B1
  ihave A4 := ((pts_split (ℓ := loc c main_arg4) (a4V c).view.set I.wo).2) $$ [A4 B4]
  · isplitl [A4]; · iexact A4
    iexact B4
  ihave K := (show sep8 (hasK c I.k) ⊢ (loc c cc0_scratch2 ↦{fullShare} kvT I.k : sProp 𝕄) from Entails.of_eq (k_heads c (kvT I.k)).symm) $$ K
  ihave V := (show sep8 (hasV c I.v) ⊢ (loc c cc0_scratch3 ↦{fullShare} kvT I.v : sProp 𝕄) from Entails.of_eq (v_heads c (kvT I.v)).symm) $$ V
  isplitl [A1 A2 A3 A4]
  · isplitl [A1]; · iexact A1
    isplitl [A2]; · iexact A2
    isplitl [A3]; · iexact A3
    iexact A4
  isplitl [Q O K V]
  · isplitl [Q]; · iexists _; iexact Q
    isplitl [O]; · iexists _; iexact O
    isplitl [K]; · iexists _; iexact K
    iexists _; iexact V
  isplitl [Zq Zo]
  · isplitl [Zq]; · iexact Zq
    iexact Zo
  isplitl [Zk]; · iexact Zk
  iexact Zv

/-- The landing buffer at any contents is its slots, each at any contents. -/
theorem slots_some : iprop(∃ f : SC F, sL c ↦{fullShare} f) ⊢ (sep7 fun j => iprop(∃ f : SC F, sPts c j f) : sProp 𝕄) := by
  iintro ⟨%f, H⟩
  iapply (show (bigSep Finset.univ fun j => sPts c j f) ⊢ (sep7 fun j => iprop(∃ f : SC F, sPts c j f) : sProp 𝕄) from by
    rw [← bigSep7]
    exact bigSep_mono fun j _ => show sPts c j f ⊢ (iprop(∃ f : SC F, sPts c j f) : sProp 𝕄) from by iintro H; iexists f; iexact H)
  iapply (Entails.of_eq (sPts_all c f)) $$ H

end Cert.Attn
-- ==== Proof.Deal.lean ====
/-
# Dealing out the exchange

At the launch every device mints the tokens of the duties on its own cells; each token then goes to the peer that
performs the duty. All devices' cells are opened under one update, so that every device knows every invariant. The
credit for what the others owe a device comes with the launch.
-/
module

public import proofs.«01_k».proof.Proof.Start

@[expose] public section

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3 ix4)

variable {F : FTy → Type} [FloatOps F]

local notation "𝕄" => MT nD τ sig Unit (Elt F) ℕ UU ℕ

variable (W : Dev nD → WC F)

/-! ## Families over the cells of a device -/

theorem bigSep_CK (Φ : CK → sProp 𝕄) : bigSep Finset.univ Φ = iprop(Φ none ∗ bigSep Finset.univ fun tj : Fin 4 × Fin 7 => Φ (some tj)) := by
  rw [bigSep_univ_equiv ((Equiv.optionEquivSumPUnit (Fin 4 × Fin 7)).trans (Equiv.sumComm _ PUnit.{1})).symm Φ, bigSep_univ_sum]
  exact congrArg (fun X : sProp 𝕄 => iprop(X ∗ _)) (bigSep_univ_of_subsingleton (⟨⟩ : PUnit.{1}))
theorem bigSep_arr (Φ : Fin 4 → Fin 7 → sProp 𝕄) :
    (bigSep Finset.univ fun tj : Fin 4 × Fin 7 => Φ tj.1 tj.2) = iprop(sep7 (Φ 0) ∗ sep7 (Φ 1) ∗ sep7 (Φ 2) ∗ sep7 (Φ 3)) := by
  rw [bigSep_univ_prod, bigSep_univ_eq_bigSepL [(0 : Fin 4), 1, 2, 3] (by decide) (by decide)]
  show iprop((bigSep Finset.univ fun j => Φ 0 j) ∗ (bigSep Finset.univ fun j => Φ 1 j) ∗ (bigSep Finset.univ fun j => Φ 2 j) ∗ bigSep Finset.univ fun j => Φ 3 j) = _
  rw [bigSep7, bigSep7, bigSep7, bigSep7]

/-- Meeting in step `j` is mutual. -/
def peerE (j : Fin 7) : Dev nD ≃ Dev nD := ⟨(peer · j), (peer · j), fun c => peer_peer c j, fun c => peer_peer c j⟩
/-- A family over devices and steps, each part handed to the peer of its step. -/
theorem deal (Φ : Dev nD → Fin 7 → sProp 𝕄) :
    (bigSep Finset.univ fun c => sep7 (Φ c)) = bigSep Finset.univ fun c => sep7 fun j => Φ (peer c j) j := by
  have e : ∀ Ψ : Dev nD → Fin 7 → sProp 𝕄, (bigSep Finset.univ fun c => sep7 (Ψ c)) = bigSep Finset.univ fun j => bigSep Finset.univ fun c => Ψ c j := fun Ψ => by
    rw [← BI.bigSep_univ_comm]
    exact bigSep_congr fun c _ => (bigSep7 _).symm
  rw [e, e]
  exact bigSep_congr fun j _ => bigSep_univ_equiv (peerE j) (fun c => Φ c j)

/-! ## Tokens -/

def ringCells : Finset (GSem nD τ sig) := Finset.univ.map ⟨kcell, kcell_injective⟩

/-- The duties on the cells of a device: its barrier's seven, and one of every other cell. -/
abbrev TK : Type := Fin 7 ⊕ (Fin 4 × Fin 7)
def tokK : TK → CK × Fin 7
  | .inl j => (none, j)
  | .inr tj => (some tj, 0)
theorem tokK_injective : Function.Injective tokK := by
  rintro (a | a) (b | b) h
  · exact congrArg Sum.inl (congrArg Prod.snd h)
  · exact absurd (congrArg Prod.fst h) (fun h' => by cases h')
  · exact absurd (congrArg Prod.fst h) (fun h' => by cases h')
  · exact congrArg Sum.inr (Option.some.inj (congrArg Prod.fst h))
abbrev tokOf (cx : Dev nD × TK) : GSem nD τ sig × ℕ × Fin 7 := (kcell (cx.1, (tokK cx.2).1), 0, (tokK cx.2).2)
theorem tokOf_injective : Function.Injective tokOf := by
  rintro ⟨c, x⟩ ⟨c', x'⟩ h
  have h1 : ((c, (tokK x).1) : Dev nD × CK) = (c', (tokK x').1) := kcell_injective (congrArg Prod.fst h)
  have h2 : (tokK x).2 = (tokK x').2 := congrArg (fun y => y.2.2) h
  have h3 : tokK x = tokK x' := Prod.ext (congrArg Prod.snd h1) h2
  have h4 : c = c' := congrArg Prod.fst h1
  exact Prod.ext h4 (tokK_injective h3)
def ringToks : Finset (GSem nD τ sig × ℕ × Fin 7) := Finset.univ.map ⟨tokOf, tokOf_injective⟩

def u₀ : UU :=
  (initOf (Pipeline.cells cfgs cellOf_inj) (Pipeline.launchToks cfgs cellOf_inj), (initOf ringCells ringToks, 1))

abbrev tB (c : Dev nD) (j : Fin 7) : sProp 𝕄 := dutyTok ER (barC c) 0 j
abbrev tX (t : Fin 4) (c : Dev nD) (j : Fin 7) : sProp 𝕄 := dutyTok ER (xC t c j) 0 0
/-- The tokens of the duties on a device's own cells. -/
def toks (c : Dev nD) : sProp 𝕄 := iprop(sep7 (tB c) ∗ sep7 (tX 0 c) ∗ sep7 (tX 1 c) ∗ sep7 (tX 2 c) ∗ sep7 (tX 3 c))
/-- The tokens of the duties a device performs. -/
def payToks (c : Dev nD) : sProp 𝕄 :=
  iprop((sep7 fun j => tB (peer c j) j) ∗ sep7 (tX 0 c) ∗ (sep7 fun j => tX 1 (peer c j) j) ∗ sep7 (tX 2 c) ∗ sep7 fun j => tX 3 (peer c j) j)

theorem bigSep5 (A B C D E' : Dev nD → sProp 𝕄) :
    (bigSep Finset.univ fun c => iprop(A c ∗ B c ∗ C c ∗ D c ∗ E' c))
      = iprop(bigSep Finset.univ A ∗ bigSep Finset.univ B ∗ bigSep Finset.univ C ∗ bigSep Finset.univ D ∗ bigSep Finset.univ E') := by
  rw [bigSep_sep', bigSep_sep', bigSep_sep', bigSep_sep']

theorem toks_around : (bigSep Finset.univ fun c : Dev nD => (toks c : sProp 𝕄)) ⊢ bigSep Finset.univ fun c : Dev nD => payToks c := by
  refine (Entails.of_eq (bigSep5 (fun c => sep7 (tB c)) (fun c => sep7 (tX 0 c)) (fun c => sep7 (tX 1 c)) (fun c => sep7 (tX 2 c)) (fun c => sep7 (tX 3 c)))).trans ?_
  rw [deal tB, deal (tX 1), deal (tX 3)]
  exact Entails.of_eq (bigSep5 _ _ _ _ _).symm

/-- What the launch element deals a device. -/
def G (c : Dev nD) : sProp 𝕄 :=
  iprop((bigSep Finset.univ fun k : CK => roundState ER (Rd W) (kcell (c, k)) 0)
    ∗ (bigSep Finset.univ fun k : CK => iprop(atPos ER (kcell (c, k)) 0 ∅ 0 ∗ reached ER (kcell (c, k)) 0)) ∗ toks c)

theorem ownU_split (a : UR sig nD τ) (b : UB) : (ownU ((a, (b, 1)) : UU) : sProp 𝕄) ⊢ iprop(BI.own (EP a) ∗ BI.own (ER b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

theorem fund_ring : BI.own (ER (initOf ringCells ringToks)) ⊢ (|==> bigSep Finset.univ (G W) : sProp 𝕄) := by
  have hX (Φ : GSem nD τ sig → sProp 𝕄) : bigSep ringCells Φ = bigSep Finset.univ fun c : Dev nD => bigSep Finset.univ fun k : CK => Φ (kcell (c, k)) := by
    unfold ringCells; rw [BI.bigSep_map, bigSep_univ_prod]; rfl
  have hT : bigSep ringToks (fun x => (dutyTok ER x.1 x.2.1 x.2.2 : sProp 𝕄)) = bigSep Finset.univ fun c : Dev nD => toks c := by
    unfold ringToks; rw [BI.bigSep_map, bigSep_univ_prod]
    refine bigSep_congr fun c _ => ?_
    rw [bigSep_univ_sum]
    unfold toks
    rw [← bigSep_arr (fun t j => tX t c j), ← bigSep7]
    rfl
  iintro HX
  imod (Rounds.fund ER (Rd W) ringCells ringToks) $$ HX with ⟨Hst, Hr, Hat, Htok⟩
  imodintro
  ihave Hst := (Entails.of_eq (hX fun g => roundState ER (Rd W) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

/-! ## All cells opened at once -/

abbrev own0 (c : Dev nD) : sProp 𝕄 := Pipeline.ownSems0 (Ix := Unit) (Name := ℕ) (U := UU) (Lvl := ℕ) (Val := Elt F) (τ := τ) osem c

theorem sems0_split (c : Dev nD) :
    iprop(own0 (F := F) c ∗ unscopedSems0 c) ⊢ iprop(locals c ∗ bigSep Finset.univ fun k : CK => semVal (kcell (c, k)) 0) := by
  unfold own0
  rw [ownSems0_eq, unscopedSems0_eq, bigSep_CK]
  iintro ⟨⟨HL, HX⟩, HB⟩
  isplitl [HL]; · iexact HL
  isplitl [HB]; · iexact HB
  iexact HX

theorem core_alloc (c : Dev nD) :
    iprop(own0 (F := F) c ∗ unscopedSems0 c ∗ G W c)
      ⊢ |={Set.univ}=> iprop((bigSep Finset.univ fun k : CK => iprop(∃ κ : ℕ, cellInv ER (Rd W) κ (kcell (c, k))))
          ∗ (bigSep Finset.univ fun k : CK => iprop(atPos ER (kcell (c, k)) 0 ∅ 0 ∗ reached ER (kcell (c, k)) 0)) ∗ toks c ∗ locals c) := by
  unfold G
  iintro ⟨Hos, Hus, Hst, Hat, Htok⟩
  ihave Hv := (sems0_split (F := F) c) $$ [Hos Hus]
  · isplitl [Hos] <;> iassumption
  icases Hv with ⟨HL, Hv⟩
  imod (show iprop((bigSep Finset.univ fun k : CK => semVal (kcell (c, k)) 0) ∗ bigSep Finset.univ fun k : CK => roundState ER (Rd W) (kcell (c, k)) 0)
      ⊢ (|={Set.univ}=> bigSep Finset.univ fun k => iprop(∃ κ : ℕ, cellInv ER (Rd W) κ (kcell (c, k))) : sProp 𝕄) from by
        rw [← bigSep_sep']
        exact (bigSep_mono fun k _ => (Rounds.body_intro ER (Rd W) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact HL

/-- What every device knows, but for the levels. -/
def known (κ : Dev nD × CK → ℕ) : sProp 𝕄 :=
  iprop((bigSep Finset.univ fun ck : Dev nD × CK => cellInv ER (Rd W) (κ ck) (kcell ck)) ∗ bigSep Finset.univ fun ck : Dev nD × CK => reached ER (kcell ck) 0)
instance known_persistent (κ : Dev nD × CK → ℕ) : BI.Persistent (known W κ) := by unfold known; infer_instance

/-- What is a device's own: its positions, the tokens of the duties it performs, its local semaphores. -/
def linear (c : Dev nD) : sProp 𝕄 :=
  iprop((bigSep Finset.univ fun k : CK => atPos ER (kcell (c, k)) 0 ∅ 0) ∗ payToks c ∗ locals c)
/-- What the opening makes of it all, for one device. -/
def G' (c : Dev nD) : sProp 𝕄 := iprop(∃ κ, known W κ ∗ linear c)

theorem bigSep_with {J : Type} [DecidableEq J] {S : Finset J} {R : sProp 𝕄} [BI.Persistent R] {Φ Ψ : J → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : CK => iprop(∃ κ : ℕ, cellInv ER (Rd W) κ (kcell (c, k))))
          ∗ (bigSep Finset.univ fun k : CK => iprop(atPos ER (kcell (c, k)) 0 ∅ 0 ∗ reached ER (kcell (c, k)) 0)) ∗ toks c ∗ locals c) : sProp 𝕄)
      ⊢ bigSep Finset.univ (G' W) := by
  rw [bigSep_sep', bigSep_sep', bigSep_sep', ← bigSep_univ_prod (fun ck : Dev nD × CK => iprop(∃ κ : ℕ, cellInv ER (Rd W) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok, HL⟩
  ihave HK := (BI.bigSep_exists_pi Finset.univ (fun (ck : Dev nD × CK) (κ : ℕ) => (cellInv ER (Rd W) κ (kcell ck) : sProp 𝕄))) $$ HI
  icases HK with ⟨%κ, #HI⟩
  ihave Htk := (toks_around (F := F)) $$ Htok
  iapply (bigSep_with (R := known W κ) (Φ := linear) fun c _ => show iprop(known W κ ∗ linear c) ⊢ G' W c from by
    unfold G'; iintro H; iexists κ; iexact H)
  isplitr
  · unfold known; isplitl; · iexact HI
    iexact HR
  · iapply (Entails.of_eq (show iprop((bigSep Finset.univ fun c : Dev nD => bigSep Finset.univ fun k : CK => (atPos ER (kcell (c, k)) 0 ∅ 0 : sProp 𝕄))
        ∗ (bigSep Finset.univ fun c : Dev nD => payToks c) ∗ bigSep Finset.univ fun c : Dev nD => locals c) = bigSep Finset.univ linear from by
      rw [← bigSep_sep', ← bigSep_sep']; rfl))
    isplitl [Hat]; · iexact Hat
    isplitl [Htk]; · iexact Htk
    iexact HL

/-- The opening: own and unscoped semaphores of all devices at once. -/
theorem glob : (bigSep Finset.univ fun c => iprop(own0 (F := F) c ∗ unscopedSems0 c ∗ G W c) : sProp 𝕄)
    ⊢ |={Set.univ}=> bigSep Finset.univ (G' W) :=
  ((bigSep_mono fun c _ => core_alloc W c).trans (bigSep_fupd _ _)).trans (BI.fupd_mono (regroup W))

/-! ## The launch credit -/

abbrev O₀ (c : Dev nD) : CellTallies nD τ sig Unit := owedOf c debts

/-- What all devices together owe a cell, for a list of debts: each debt of the cell's kind comes from exactly one device. -/
theorem owed_sum (c : Dev nD) (k : CK) : ∀ l : List (Fin 3 × Fin 7),
    ∑ d : Dev nD, owedOf d l (kcell (c, k)) () = (l.map fun x => if k = oKind x then oAmt x else 0).sum
  | [] => Finset.sum_const_zero
  | x :: l => by
    have e : ∀ d : Dev nD, owedOf d (x :: l) (kcell (c, k)) () = owedOf d l (kcell (c, k)) () + if d = peer c x.2 then (if k = oKind x then oAmt x else 0) else 0 := fun d => by
      show (owedOf d l + tallyAt (oCell d x) () (oAmt x)) (kcell (c, k)) () = _
      rw [Pi.add_apply, Finsupp.add_apply, tallyAt_apply]
      refine congrArg _ ?_
      by_cases hd : d = peer c x.2
      · subst hd
        rw [if_pos rfl]
        by_cases hk : k = oKind x
        · rw [if_pos hk, if_pos ⟨by unfold oCell; rw [peer_peer, hk], rfl⟩]
        · rw [if_neg hk, if_neg fun h => hk (congrArg Prod.snd (kcell_injective h.1))]
      · rw [if_neg hd, if_neg fun h => hd (by
          have := congrArg Prod.fst (kcell_injective h.1)
          rw [show c = peer d x.2 from this, peer_peer])]
    rw [Finset.sum_congr rfl fun d _ => e d, Finset.sum_add_distrib, owed_sum c k l, Finset.sum_ite_eq' Finset.univ (peer c x.2), if_pos (Finset.mem_univ _),
      List.map_cons, List.sum_cons, Nat.add_comm]

theorem launch_cell (c : Dev nD) (k : CK) {n : ℕ} (h : (debts.map fun x => if k = oKind x then oAmt x else 0).sum = n) :
    tallyOn (kcell (c, k)) (launchCredit (Pipeline.owing O₀) 0 (kcell (c, k))) = (tallyAt (kcell (c, k)) () n : CellTallies nD τ sig Unit) := by
  unfold tallyAt; refine congrArg _ (Finsupp.ext fun u => ?_); cases u
  rw [Pipeline.launchCredit_owing, Finsupp.single_eq_same, ← h]
  exact owed_sum c k debts

theorem debts_bar : (debts.map fun x => if (none : CK) = oKind x then oAmt x else 0).sum = 7 := by
  simp [debts, oKind, oAmt]
theorem debts_rs (j : Fin 7) : (debts.map fun x => if (some (1, j) : CK) = oKind x then oAmt x else 0).sum = N := by
  fin_cases j <;> simp [debts, oKind, oAmt]
theorem debts_ag (j : Fin 7) : (debts.map fun x => if (some (3, j) : CK) = oKind x then oAmt x else 0).sum = N := by
  fin_cases j <;> simp [debts, oKind, oAmt]

/-- The cells others pay into, by what they are. -/
def paid : PUnit.{1} ⊕ (Fin 7 ⊕ Fin 7) → CK
  | .inl _ => none
  | .inr (.inl j) => some (1, j)
  | .inr (.inr j) => some (3, j)
theorem paid_injective : Function.Injective paid := by decide

theorem creds (c : Dev nD) :
    (Pipeline.launchCred O₀ c : sProp 𝕄) ⊢ iprop(cred (tallyAt (barC c) () 7) ∗ sep7 (crd 1 c) ∗ sep7 (crd 3 c)) := by
  unfold Pipeline.launchCred
  refine (bigSep_subset (Finset.subset_univ (Finset.univ.map ⟨fun x => csem (paid x), csem_injective.comp paid_injective⟩))).trans ?_
  rw [BI.bigSep_map, bigSep_univ_sum, bigSep_univ_sum, bigSep_univ_of_subsingleton (⟨⟩ : PUnit.{1}), bigSep7, bigSep7]
  refine sep_mono (Entails.of_eq (congrArg cred (launch_cell c none debts_bar))) (sep_mono ?_ ?_)
  · rw [← bigSep7, ← bigSep7]
    exact bigSep_mono fun j _ => Entails.of_eq (congrArg cred (launch_cell c (some (1, j)) (debts_rs j)))
  · rw [← bigSep7, ← bigSep7]
    exact bigSep_mono fun j _ => Entails.of_eq (congrArg cred (launch_cell c (some (3, j)) (debts_ag j)))

end Cert.Attn
-- ==== Proof.Launch.lean ====
/-
# The launch

The kernel as a whole, on all eight devices, from any memory: it runs to its end, leaves the arguments as they were and
every semaphore at zero, and every device's result holds the gathered rows.
-/
module

public import proofs.«01_k».proof.Proof.Deal
public import Idealize.ShloMosaic.Lib.Pipeline.CollectiveSegs

@[expose] public section

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3 ix4)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: arbitrary contents, every semaphore counter zero. -/
def s₀ : MemSt nD τ sig (Elt F) := ⟨m, fun _ => 0, ρ⟩

/-- What a device computes from, read off the memory. -/
def inp (c : Dev nD) : Inp F where
  x := (win0_0.blk (0 : Fin 1)).view.read (Elt F) (m (loc c main_arg0))
  wq := m (loc c main_arg1)
  k := m (loc c main_arg2)
  v := m (loc c main_arg3)
  wo := m (loc c main_arg4)
/-- The partial sums of every device. -/
def Wm (c : Dev nD) : WC F := part (inp m c) c

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- What a device enters the region with, besides its scratch. -/
def start (c : Dev nD) : sProp 𝕄 :=
  iprop((∃ κ, recs (Wm m) κ) ∗ argPts (inp m c) c ∗ locals c ∗ sep7 (fun j => tB (peer c j) j) ∗ cred (tallyAt (barC c) () 7) ∗ atPos ER (barC c) 0 ∅ 0 ∗ exIn c)
def Φ₀ (c : Dev nD) : sProp 𝕄 :=
  iprop((∃ κ, recs (Wm m) κ) ∗ (locIn (inp m c) c ∗ restW (inp m c) c) ∗ barIn c ∗ exIn c ∗ anyW c)
def Φ₁ (c : Dev nD) : sProp 𝕄 := iprop((locOut (inp m c) c ∗ restW (inp m c) c) ∗ exOut (Wm m) c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (inp m c).x
    | ⟨1, _⟩ => outV (Wm m)
  Φ t := match t with
    | ⟨0, _⟩ => Φ₀ m c
    | ⟨_ + 1, _⟩ => Φ₁ m c
  q _ := fullShare
  owed t := match t with
    | ⟨0, _⟩ => O₀ c
    | ⟨_ + 1, _⟩ => 0

theorem bigSep_W (Φ : Fin cfg0.W → sProp 𝕄) : bigSep Finset.univ Φ = iprop(Φ (0 : Fin 2) ∗ Φ (1 : Fin 2)) := bigSep_W0 Φ
theorem fetch_0 (t : Fin cfg0.N) : (cfg0.win (0 : Fin 2)).fetch t = true := by rw [fin_N t]; rfl

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

/-! ## The body -/

def bodyPre (c : Dev nD) : sProp 𝕄 :=
  iprop(Φ₀ m c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))
def bodyPost (c : Dev nD) : sProp 𝕄 :=
  iprop(Φ₁ m c ∗ (dats m ρ 0 c).owesAt () t₀.succ ∗ stg c cc0_stg0_0 (inp m c).x ∗ stg c cc0_stg1_0 (outV (Wm m)))

theorem sound_body (c : Dev nD) : bodyPre m ρ c ⊢ wpB c (onBufs (cc0_body (F := F))) (fun _ => bodyPost m ρ c) := by
  unfold bodyPre Φ₀
  iintro ⟨⟨⟨%κ, #HR⟩, ⟨HL, HW⟩, HB, HE, HA⟩, Ho, ⟨%d0, %g0, %hg0, Hx⟩, ⟨%d1, %g1, %hg1, Hout⟩⟩
  have hx : g0 = (inp m c).x := by rw [hg0]; unfold Dat.before; rw [if_pos (fetch_0 t₀)]; rfl
  subst hx
  unfold Dat.owesAt Pipeline.owesWithin
  icases Ho with ⟨%Wt, %hW, HO⟩
  rw [show (dats m ρ 0 c).owed t₀.castSucc = owedOf c debts from rfl]
  iapply (sound_kernel (Wm m) κ (inp m c) c rfl) $$ HR [HO] HL HB HE Hx HA [Hout]
  · unfold ow; iexists _; iexact HO
  · iexists _; iexact Hout
  iintro ⟨HO, HL, HE, Hx, Hout⟩
  unfold bodyPost Φ₁ ow Dat.owesAt Pipeline.owesWithin
  rw [show (dats m ρ 0 c).owed t₀.succ = owedOf c [] from rfl]
  icases HO with ⟨%Wt', HO⟩
  isplitl [HL HW HE]
  · isplitl [HL HW]
    · isplitl [HL] <;> iassumption
    iexact HE
  isplitl [HO]
  · iexists Wt'
    isplitr; · ipureintro; exact fun _ _ => Or.inl trivial
    iexact HO
  isplitl [Hx]
  · iexists _; isplitr; · (ipureintro; rfl)
    iexact Hx
  iexists _; isplitr; · (ipureintro; rfl)
  iexact Hout

set_option maxRecDepth 40000 in
/-- The body on core `c`, as the pipeline asks for it. -/
theorem body_obligation (c : Dev nD) : BodyObligation (dats (F := F) m ρ 0 c) (defs₀ (F := F)) 𝒱₀ () Set.univ := fun t => by
  rw [fin_N t]
  rw [bigSep_W, bigSep_W]
  simp only [owns_whole_eq]
  exact sound_body m ρ c

/-! ## In and out of the region -/

theorem ownSemFacts : Pipeline.OwnSemFacts cfg0.spec osem := by decide +kernel
theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (Wm m) c)
      ⊢ |={Set.univ}=> iprop(start m c ∗ emp) := by
  unfold G' known linear payToks
  rw [Pipeline.unscopedRestP_none, show Pipeline.unscopedRest cfg0.spec c (fun b => m ((c : Thread nD τ).loc b)) = _ from unscopedRest0_eq c _, bigSep_CK, bigSep_arr (fun t j => pos t c j)]
  iintro ⟨HA, Hlev, Hcr, -, ⟨%κ, ⟨HI, Hre⟩, ⟨HaB, Hp0, Hp1, Hp2, Hp3⟩, ⟨TB, T0, T1, T2, T3⟩, HL⟩⟩
  ihave Hc := (creds (F := F) c) $$ Hcr
  icases Hc with ⟨CB, C1, C3⟩
  imodintro
  unfold start recs exIn argPts
  isplitl
  · isplitl [HI Hre Hlev]
    · iexists κ
      isplitl [HI]; · iexact HI
      isplitl [Hre]; · iexact Hre
      iexact Hlev
    isplitl [HA]
    · iexact HA
    isplitl [HL]; · iexact HL
    isplitl [TB]; · iexact TB
    isplitl [CB]; · iexact CB
    isplitl [HaB]; · iexact HaB
    isplitl [T0 T1]
    · iapply (Entails.of_eq (sep7_sep _ _).symm)
      isplitl [T0]; · iexact T0
      iexact T1
    isplitl [T2 T3]
    · iapply (Entails.of_eq (sep7_sep _ _).symm)
      isplitl [T2]; · iexact T2
      iexact T3
    isplitl [C1]; · iexact C1
    isplitl [C3]; · iexact C3
    isplitl [Hp0]; · iexact Hp0
    isplitl [Hp1]; · iexact Hp1
    isplitl [Hp2]; · iexact Hp2
    iexact Hp3
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ start barIn
  iintro ⟨⟨HR, HA, HL, TB, CB, HaB, HE⟩, -, S0, S1, S2, S3, S4, S5⟩
  ihave Hl := (loc_intro (inp m c) c) $$ [HA HL S0 S1 S2 S3]
  · isplitl [HA]; · iexact HA
    isplitl [S0 S1 S2 S3]
    · unfold scr4
      isplitl [S0]; · iexact S0
      isplitl [S1]; · iexact S1
      isplitl [S2]; · iexact S2
      iexact S3
    iexact HL
  isplitl [HR]; · iexact HR
  isplitl [Hl]; · iexact Hl
  isplitl [TB CB HaB S5]
  · isplitl [TB S5]
    · iapply (Entails.of_eq (sep7_sep _ _).symm)
      isplitl [TB]; · iexact TB
      iapply (slots_some c) $$ S5
    isplitl [CB]; · iexact CB
    iexact HaB
  isplitl [HE]; · iexact HE
  iexact S4

theorem phi1_exit (c : Dev nD) :
    (dats m ρ 0 c).Φ (Fin.last cfg0.N) ⊢ iprop((unscopedSems0 c ∗ argPts (inp m c) c) ∗ Pipeline.ownSems0 osem c ∗ Pipeline.scopedRest cfg0.spec c) := by
  rw [show (dats m ρ 0 c).Φ (Fin.last cfg0.N) = Φ₁ m c from rfl, scopedRest0_eq, ownSems0_eq, unscopedSems0_eq, bigSep_arr (fun t j => zer t c j)]
  unfold Φ₁ exOut
  iintro ⟨Hl, HzB, Z0, Z1, Z2, Z3, HS, Hw⟩
  ihave Hl := (loc_elim (inp m c) c) $$ Hl
  unfold scr4
  icases Hl with ⟨HA, ⟨S0, S1, S2, S3⟩, HL⟩
  isplitl [HzB HA]
  · isplitl [HzB]; · iexact HzB
    iexact HA
  isplitl [HL Z0 Z1 Z2 Z3]
  · isplitl [HL]; · iexact HL
    isplitl [Z0]; · iexact Z0
    isplitl [Z1]; · iexact Z1
    isplitl [Z2]; · iexact Z2
    iexact Z3
  isplitl [S0]; · iexact S0
  isplitl [S1]; · iexact S1
  isplitl [S2]; · iexact S2
  isplitl [S3]; · iexact S3
  isplitl [Hw]; · iexists _; iexact Hw
  iexists (slotsOf (Wm m) c)
  iapply (Entails.of_eq ((sPts_all c (slotsOf (Wm m) c)).trans (bigSep7 _)).symm) $$ HS

theorem waits (c : Dev nD) : (levAts L lv : sProp 𝕄) ⊢ Pipeline.cellsWaits cfgs (dats m ρ) () 0 c :=
  Pipeline.cellsWaits_intro cfgs (dats m ρ) () 0 c fun w s t => by
    have hq : kind (.dma ((cfg0.win w).sem s)) = none := by fin_cases w <;> fin_cases s <;> decide
    rcases t with ⟨_ | _, ht⟩
    · exact mayWait c _ debts (by rw [hq]; decide)
    · exact mayWait c _ [] (List.forall_mem_nil _)

/-! ## The run -/

def finalA (c : Dev nD) (w : Fin cfg0.W) : Buf (Elt F) ((cfg0.win w).arr.view.loc (c : Thread nD τ)) := (dats m ρ 0 c).arrAt w cfg0.N

/-- The four arguments the kernel copies from, unchanged on a device. -/
def argsKept (c : Dev nD) (s : MemSt nD τ sig (Elt F)) : Prop :=
  s.mem (loc c main_arg1) = m (loc c main_arg1) ∧ s.mem (loc c main_arg2) = m (loc c main_arg2)
    ∧ s.mem (loc c main_arg3) = m (loc c main_arg3) ∧ s.mem (loc c main_arg4) = m (loc c main_arg4)

theorem pt_read (ℓ : Loc nD τ sig) (f : Buf (Elt F) ℓ) (s' : Phys nD τ sig (Elt F)) :
    iprop((ℓ ↦{fullShare} f : sProp 𝕄) ∗ SI s') ⊢ iprop(⌜s'.mem.mem ℓ = f⌝ ∗ SI s') := by
  iintro ⟨H, HSI⟩
  ihave H' := (pointsTo_read_all (Finset.univ : Finset PUnit.{1}) (fun _ => ℓ) (fun _ => f) s') $$ [H HSI]
  · isplitl [H]
    · iapply (Entails.of_eq (bigSep_univ_of_subsingleton (⟨⟩ : PUnit.{1}) (Φ := fun _ => (ℓ ↦{fullShare} f : sProp 𝕄))).symm) $$ H
    iexact HSI
  icases H' with ⟨%h, HSI⟩
  isplitr
  · ipureintro; exact h ⟨⟩ (Finset.mem_univ _)
  iexact HSI

theorem args_read (c : Dev nD) (s' : Phys nD τ sig (Elt F)) :
    iprop((argPts (inp m c) c : sProp 𝕄) ∗ SI s') ⊢ iprop(⌜argsKept m c s'.mem⌝ ∗ SI s') := by
  unfold argPts
  iintro ⟨⟨H1, H2, H3, H4⟩, HSI⟩
  ihave H := (pt_read (loc c main_arg1) _ s') $$ [H1 HSI]
  · isplitl [H1]; · iexact H1
    iexact HSI
  icases H with ⟨%h1, HSI⟩
  ihave H := (pt_read (loc c main_arg2) _ s') $$ [H2 HSI]
  · isplitl [H2]; · iexact H2
    iexact HSI
  icases H with ⟨%h2, HSI⟩
  ihave H := (pt_read (loc c main_arg3) _ s') $$ [H3 HSI]
  · isplitl [H3]; · iexact H3
    iexact HSI
  icases H with ⟨%h3, HSI⟩
  ihave H := (pt_read (loc c main_arg4) _ s') $$ [H4 HSI]
  · isplitl [H4]; · iexact H4
    iexact HSI
  icases H with ⟨%h4, HSI⟩
  isplitr
  · ipureintro; exact ⟨h1, h2, h3, h4⟩
  iexact HSI

def QC : PUnit × MemSt nD τ sig (Elt F) → Prop := fun r =>
  ∀ c : Dev nD, (∀ w : Fin cfg0.W, r.2.mem ((cfg0.win w).arr.view.loc (c : Thread nD τ)) = finalA m ρ c w) ∧ argsKept m c r.2

set_option maxRecDepth 8000 in
/-- For any float values, from any memory with zero counters: every weakly fair execution of the eight devices ends, the
    result of every device at the computed contents, the arguments unchanged, every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (Wm m)) (G' := G' (Wm m)) (u₀ := u₀)
    (hu₀ := by
      unfold u₀
      iintro Hu
      ihave H := (ownU_split _ _) $$ Hu
      icases H with ⟨HP, HX⟩
      imod (fund_ring (Wm m)) $$ HX with HG
      imodintro
      isplitl [HP] <;> iassumption)
    (hglob := glob (Wm m))
    (hA := fun _ _ => rfl) (hpf := fun _ k => k.elim0)
    (X := start m) (Y := fun c => iprop(unscopedSems0 c ∗ argPts (inp m c) c)) (Z := fun _ => iprop(emp))
    (hX := start_intro m ρ) (hin := phi0_intro m ρ) (hout := phi1_exit m ρ)
    (QY := fun c s => argsKept m c s ∧ ∀ sm : SemLoc sig, sm.isScoped .tc = false → s.sem ((c.tc : Thread nD τ), sm) = 0)
    (hY := fun c s' => by
      iintro ⟨⟨Hu, HA⟩, -, HSI⟩
      ihave H := (args_read m c s') $$ [HA HSI]
      · isplitl [HA] <;> iassumption
      icases H with ⟨%hA, HSI⟩
      imod (Pipeline.unscopedSems0_read (X := unscopedSems0 c) (c := c) fupd_intro s') $$ [Hu HSI] with ⟨%hu, HSI⟩
      · isplitl [Hu] <;> iassumption
      imodintro
      isplitr; · ipureintro; exact ⟨hA, hu⟩
      iexact HSI)
    (hQ := fun _ h hs => ⟨fun c => ⟨fun w => (h c).1 w, (h c).2.2.1⟩, sem_eq_zero hs fun c => (h c).2.2.2⟩)

/-- The input array after the run holds what it held. -/
theorem finalA_x (c : Dev nD) : finalA m ρ c (0 : Fin 2) = m (loc c main_arg0) :=
  (dats (F := F) m ρ 0 c).arrAt_in (0 : Fin 2) rfl _

end Cert.Attn
-- ==== Proof.Softmax.lean ====
/-
# The softmax of real scores

Facts about the extended reals: which sums and products of reals are real, how a non-negative real factor moves through
a sum, and that the quotient of two sums of exponentials is the softmax with any shift of the scores.
-/
module

public import Idealize.ShloMosaic.PureOps.Ideal

@[expose] public section

noncomputable section

namespace Cert.Attn

open Idealize.ShloMosaic

/-- An extended real that is a real. -/
def IsReal (a : EReal) : Prop := ∃ r : ℝ, a = (r : EReal)

theorem IsReal.coe (r : ℝ) : IsReal (r : EReal) := ⟨r, rfl⟩
theorem IsReal.zero : IsReal (0 : EReal) := ⟨0, EReal.coe_zero.symm⟩

theorem IsReal.add {a b : EReal} (ha : IsReal a) (hb : IsReal b) : IsReal (a + b) := by
  obtain ⟨r, rfl⟩ := ha; obtain ⟨s, rfl⟩ := hb; exact ⟨r + s, (EReal.coe_add r s).symm⟩

theorem IsReal.mul {a b : EReal} (ha : IsReal a) (hb : IsReal b) : IsReal (a * b) := by
  obtain ⟨r, rfl⟩ := ha; obtain ⟨s, rfl⟩ := hb; exact ⟨r * s, (EReal.coe_mul r s).symm⟩

theorem IsReal.sum {ι : Type*} (S : Finset ι) {f : ι → EReal} (h : ∀ i, IsReal (f i)) : IsReal (∑ i ∈ S, f i) := by
  classical
  induction S using Finset.induction_on with
  | empty => simpa using IsReal.zero
  | insert a S ha ih => rw [Finset.sum_insert ha]; exact (h a).add ih

/-- An absolute value below infinity belongs to a real. -/
theorem IsReal.of_abs {a : EReal} (h : max a (-a) < ⊤) : IsReal a := by
  induction a with
  | bot => simp at h
  | top => simp at h
  | coe r => exact ⟨r, rfl⟩

/-- A sum of reals, as a real. -/
theorem coe_sum {ι : Type*} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- A non-negative real factor moves into a sum of any extended reals. -/
theorem sum_mul_real {ι : Type*} (S : Finset ι) (f : ι → EReal) {r : ℝ} (hr : 0 ≤ r) :
    (∑ i ∈ S, f i) * (r : EReal) = ∑ i ∈ S, f i * (r : EReal) := by
  classical
  induction S using Finset.induction_on with
  | empty => simp
  | insert a S ha ih =>
    rw [Finset.sum_insert ha, Finset.sum_insert ha, ← ih]
    exact EReal.right_distrib_of_nonneg_of_ne_top (by exact_mod_cast hr) (EReal.coe_ne_top r) _ _

/-- The scale moves from the queries to the scores, all of them real. -/
theorem scale_out {ι : Type*} [Fintype ι] {q k : ι → EReal} {c : EReal} (hq : ∀ i, IsReal (q i)) (hk : ∀ i, IsReal (k i)) (hc : IsReal c) :
    ∑ i, q i * c * k i = (∑ i, q i * k i) * c := by
  choose q' hq' using hq
  choose k' hk' using hk
  obtain ⟨c', rfl⟩ := hc
  simp only [hq', hk', ← EReal.coe_mul, ← coe_sum, Finset.sum_mul]
  exact congrArg _ (Finset.sum_congr rfl fun i _ => by ring)

/-- A quotient by a non-zero real is a product with its inverse. -/
theorem div_coe (a : EReal) {r : ℝ} (hr : r ≠ 0) : Ideal.div a (r : EReal) = a * ((r⁻¹ : ℝ) : EReal) := by
  unfold Ideal.div
  rw [if_neg (by exact_mod_cast hr), EReal.coe_inv]

/-- The quotient of the two sums of exponentials is the softmax's weighted sum, whatever real is taken off the scores. -/
theorem softmax_row {n : ℕ} (hn : 0 < n) {s : Fin n → EReal} (v : Fin n → EReal) {M : EReal} (hs : ∀ j, IsReal (s j)) (hM : IsReal M) :
    Ideal.div (∑ j, Ideal.exp (s j) * v j) (∑ j, Ideal.exp (s j))
      = ∑ j, v j * Ideal.div (Ideal.exp (s j - M)) (∑ j, Ideal.exp (s j - M)) := by
  choose s' hs' using hs
  obtain ⟨M', rfl⟩ := hM
  have he : ∀ j, Ideal.exp (s j) = (Real.exp (s' j) : EReal) := fun j => by rw [hs' j]; rfl
  have he' : ∀ j, Ideal.exp (s j - (M' : EReal)) = ((Real.exp (s' j - M') : ℝ) : EReal) := fun j => by
    rw [hs' j, ← EReal.coe_sub]; rfl
  have hne : (Finset.univ : Finset (Fin n)).Nonempty := ⟨⟨0, hn⟩, Finset.mem_univ _⟩
  have hD : (0 : ℝ) < ∑ j, Real.exp (s' j) := Finset.sum_pos (fun j _ => Real.exp_pos _) hne
  have hD' : (0 : ℝ) < ∑ j, Real.exp (s' j - M') := Finset.sum_pos (fun j _ => Real.exp_pos _) hne
  simp only [he, he', ← coe_sum]
  rw [div_coe _ hD.ne', sum_mul_real _ _ (inv_nonneg.2 hD.le)]
  refine Finset.sum_congr rfl fun j _ => ?_
  rw [div_coe _ hD'.ne', mul_right_comm, mul_comm (v j), ← EReal.coe_mul, ← EReal.coe_mul]
  congr 2
  rw [← div_eq_mul_inv, ← div_eq_mul_inv]
  simp only [Real.exp_sub]
  rw [← Finset.sum_div]
  field_simp

/-- The greatest of a non-empty family of reals, folded from minus infinity, is real. -/
theorem isReal_fold_max {n : ℕ} (hn : 0 < n) {s : Fin n → EReal} (hs : ∀ j, IsReal (s j)) :
    IsReal (Finset.univ.fold (fun a b : EReal => max a b) ⊥ s) := by
  have key : ∀ S : Finset (Fin n), S.fold (fun a b : EReal => max a b) ⊥ s = ⊥ ∧ S = ∅ ∨ IsReal (S.fold (fun a b : EReal => max a b) ⊥ s) := by
    intro S
    induction S using Finset.induction_on with
    | empty => left; simp
    | insert a S ha ih =>
      right
      rw [Finset.fold_insert ha]
      obtain ⟨h, -⟩ | h := ih
      · rw [h]; simpa using hs a
      · rcases max_choice (s a) (S.fold (fun a b : EReal => max a b) ⊥ s) with e | e <;> rw [e]
        exacts [hs a, h]
  obtain ⟨-, h⟩ | h := key Finset.univ
  · exact absurd h (Finset.Nonempty.ne_empty ⟨⟨0, hn⟩, Finset.mem_univ _⟩)
  · exact h

/-- The scale and the filler are reals, the maximum's start is minus infinity, the bound of the finite is infinity. -/
theorem isReal_scale : IsReal (Ideal.ofBits .f32 0x3DB504F3#32) := by
  simp only [Ideal.ofBits, Ideal.ieee]
  rw [if_neg (by decide), if_neg (by decide)]
  exact ⟨_, rfl⟩
theorem isReal_fill : IsReal (Ideal.ofBits .f32 0xCE6E6B28#32) := by
  simp only [Ideal.ofBits, Ideal.ieee]
  rw [if_neg (by decide), if_neg (by decide)]
  exact ⟨_, rfl⟩
theorem ofBits_negInf : Ideal.ofBits .f32 0xFF800000#32 = (⊥ : EReal) := by
  simp only [Ideal.ofBits, Ideal.ieee]
  rw [if_pos (by decide), if_pos (by decide), if_pos (by decide)]
theorem ofBits_inf : Ideal.ofBits .f32 0x7F800000#32 = (⊤ : EReal) := by
  simp only [Ideal.ofBits, Ideal.ieee]
  rw [if_pos (by decide), if_pos (by decide), if_neg (by decide)]

end Cert.Attn
-- ==== Proof.KernelHead.lean ====
/-
# One head of the kernel, entry by entry

All eight heads of a device run the same arithmetic. `hout` is what one head adds to the device's partial sums, and
`part_eq` says that the partial sums are those of the eight heads, in order.
-/
module

public import proofs.«01_k».proof.Proof.Values
public import Idealize.ShloMosaic.Lib.Pointwise

@[expose] public section

noncomputable section

namespace Cert.Attn

open Cert.KernelIdeal Cert.KernelIdeal.Gen
open Idealize.ShloMosaic Idealize.ShloMosaic.TcCoe

section Head

variable {F : FTy → Type} [FloatOps F]
variable (msk : IVec S256x4096 1) (q : FVec F S256x128 .f32) (k v : Vec F S1x4096x128 .f32) (wo : Vec F S128x1024 .f32)

/-- The exponentials of a head's masked scores. -/
def hexp : FVec F S256x4096 .bf16 :=
  exp (truncf .bf16 (select msk
    (matmul dot_S256x128_S4096x128_S256x4096_1_1_0_0_n_n none q (shapeCast S4096x128 k shapeCasts_S1x4096x128_S4096x128) (constant S256x4096 .f32 0x00000000#32))
    (broadcast S256x4096 (Scalar.ofBits .f32 0xCE6E6B28#32))) bitsLt_bf16_f32)

/-- Their sums along the rows. -/
def hsum : FVec F S256x1 .f32 :=
  shapeCast S256x1 (multiReduction .add [1] S256 (extf .f32 (hexp msk q k) bitsLt_bf16_f32) 0x00000000#32 reduces_S256x4096_S256 (.inl rfl) rfl)
    shapeCasts_S256_S256x1

/-- A head's context. -/
def hctx : FVec F S256x128 .f32 :=
  divf (matmul dot_S256x4096_S4096x128_S256x128_1_0_0_1_n_n none (hexp msk q k) (shapeCast S4096x128 v shapeCasts_S1x4096x128_S4096x128)
    (constant S256x128 .f32 0x00000000#32)) (broadcastTo S256x128 (hsum msk q k) broadcasts_S256x1_S256x128)

/-- What a head adds to the partial sums. -/
def hout : FVec F S256x1024 .f32 :=
  matmul dot_S256x128_S128x1024_S256x1024_1_0_0_1_n_n none (hctx msk q k v) wo (constant S256x1024 .f32 0x00000000#32)

variable (I : Inp F) (c : Dev nD)

/-- The kernel's heads are of that form. -/
theorem o0_eq : o0 I c = addf (broadcast S256x1024 (Scalar.ofBits .f32 0x00000000#32))
    (hout mask (extractStridedSlice S256x128 ![0, 0] (qs I c) slices_S256x1024_o0_0_S256x128) (ldH I.k 0) (ldH I.v 0) (ldO I c 0)) := rfl
theorem o1_eq : o1 I c = addf (o0 I c)
    (hout mask (extractStridedSlice S256x128 ![0, 128] (qs I c) slices_S256x1024_o0_128_S256x128) (ldH I.k 1) (ldH I.v 1) (ldO I c 1)) := rfl
theorem o2_eq : o2 I c = addf (o1 I c)
    (hout mask (extractStridedSlice S256x128 ![0, 256] (qs I c) slices_S256x1024_o0_256_S256x128) (ldH I.k 2) (ldH I.v 2) (ldO I c 2)) := rfl
theorem o3_eq : o3 I c = addf (o2 I c)
    (hout mask (extractStridedSlice S256x128 ![0, 384] (qs I c) slices_S256x1024_o0_384_S256x128) (ldH I.k 3) (ldH I.v 3) (ldO I c 3)) := rfl
theorem o4_eq : o4 I c = addf (o3 I c)
    (hout mask (extractStridedSlice S256x128 ![0, 512] (qs I c) slices_S256x1024_o0_512_S256x128) (ldH I.k 4) (ldH I.v 4) (ldO I c 4)) := rfl
theorem o5_eq : o5 I c = addf (o4 I c)
    (hout mask (extractStridedSlice S256x128 ![0, 640] (qs I c) slices_S256x1024_o0_640_S256x128) (ldH I.k 5) (ldH I.v 5) (ldO I c 5)) := rfl
theorem o6_eq : o6 I c = addf (o5 I c)
    (hout mask (extractStridedSlice S256x128 ![0, 768] (qs I c) slices_S256x1024_o0_768_S256x128) (ldH I.k 6) (ldH I.v 6) (ldO I c 6)) := rfl
theorem part_eq : part I c = shapeCast S256x1024 (truncf .bf16 (addf (o6 I c)
    (hout mask (extractStridedSlice S256x128 ![0, 896] (qs I c) slices_S256x1024_o0_896_S256x128) (ldH I.k 7) (ldH I.v 7) (ldO I c 7))) bitsLt_bf16_f32) shapeCasts_S256x1024_S256x1024 := rfl

end Head

section AtIdeal

variable (msk : IVec S256x4096 1) (q : FVec Ideal S256x128 .f32) (k v : Vec Ideal S1x4096x128 .f32) (wo : Vec Ideal S128x1024 .f32)

/-- A masked score of a head. -/
def hscore (r : Fin 256) (j : Fin 4096) : EReal :=
  Scalar.select (msk (ix2 r j)) (∑ e : Fin 128, q (ix2 r e) * k (ix3 0 j e)) (Ideal.ofBits .f32 0xCE6E6B28#32)

/-- What a head adds, at an entry. -/
theorem hout_apply (r : Fin 256) (n : Fin 1024) :
    hout msk q k v wo (ix2 r n) = ∑ d : Fin 128, Ideal.div (∑ j : Fin 4096, Ideal.exp (hscore msk q k r j) * v (ix3 0 j d))
      (∑ j : Fin 4096, Ideal.exp (hscore msk q k r j)) * wo (ix2 d n) := by
  pointwise [hout, hctx, hsum, hexp, hscore]

/-- A scaled query entry. -/
theorem pay7_apply (x : FVec Ideal S1x256x1024 .f32) (w : FVec Ideal S1024x1024 .f32) (r : Fin 256) (u : Fin 1024) :
    k0_pay7 (k0_pay6 x w) cScale (ix2 r u) = (∑ t : Fin 1024, x (ix3 0 r t) * w (ix2 t u)) * Ideal.ofBits .f32 0x3DB504F3#32 := by
  pointwise [k0_pay7, k0_pay6, cScale]

end AtIdeal

end Cert.Attn
-- ==== Proof.RefTerm.lean ====
/-
# The reference's term, in named pieces

The reference's result is one long composition of array operations that repeats its mask and its scores many times.
Here the pieces get names, and the result is stated by them.
-/
module

public import proofs.«01_k».proof.Proof.Gen.ReferenceIdeal.Run
public import Idealize.ShloMosaic.Lib.Pointwise

@[expose] public section

noncomputable section

namespace Cert.Ref

open Cert.ReferenceIdeal Cert.ReferenceIdeal.Gen
open Idealize.ShloMosaic Idealize.ShloMosaic.TcCoe Idealize.SL.Sem

/-- The number 64 as the reference spells it. -/
def w64 : IVec S_ 32 := id (constantI S_ 32 64#32)

/-- The block of 64 that each of the 256 query rows lies in. -/
def rowIx : IVec S256 32 :=
  select (andi (cmpi .ne (signi (iotaInDim S256 32 0)) (broadcastInDim S256 ![] bcast_S_S256 (signi w64)))
      (cmpi .ne (Host.remsi (iotaInDim S256 32 0) (broadcastInDim S256 ![] bcast_S_S256 w64)) (broadcastInDim S256 ![] bcast_S_S256 (constantI S_ 32 0#32))))
    (subi (Host.divsi (iotaInDim S256 32 0) (broadcastInDim S256 ![] bcast_S_S256 w64)) (broadcastInDim S256 ![] bcast_S_S256 (constantI S_ 32 1#32)))
    (Host.divsi (iotaInDim S256 32 0) (broadcastInDim S256 ![] bcast_S_S256 w64))

/-- The block of 64 that each of the 4096 key positions lies in. -/
def colIx : IVec S4096 32 :=
  select (andi (cmpi .ne (signi (iotaInDim S4096 32 0)) (broadcastInDim S4096 ![] bcast_S_S4096 (signi w64)))
      (cmpi .ne (Host.remsi (iotaInDim S4096 32 0) (broadcastInDim S4096 ![] bcast_S_S4096 w64)) (broadcastInDim S4096 ![] bcast_S_S4096 (constantI S_ 32 0#32))))
    (subi (Host.divsi (iotaInDim S4096 32 0) (broadcastInDim S4096 ![] bcast_S_S4096 w64)) (broadcastInDim S4096 ![] bcast_S_S4096 (constantI S_ 32 1#32)))
    (Host.divsi (iotaInDim S4096 32 0) (broadcastInDim S4096 ![] bcast_S_S4096 w64))

/-- Both, spread over the whole mask. -/
def rowB : IVec S256x4096 32 := broadcastInDim S256x4096 ![0, 1] bcast_S256x1_S256x4096_0_1 (broadcastInDim S256x1 ![0] bcast_S256_S256x1_0 rowIx)
def colR : IVec S1x4096 32 := broadcastInDim S1x4096 ![1] bcast_S4096_S1x4096_1 colIx
def colB : IVec S256x4096 32 := broadcastInDim S256x4096 ![0, 1] bcast_S1x4096_S256x4096_0_1 colR

/-- The divisor three, the remainder of the sum of the blocks, and that remainder brought to a non-negative one. -/
def three : IVec S_ 32 := select (cmpi .eq (id (constantI S_ 32 3#32)) (constantI S_ 32 0#32)) (constantI S_ 32 1#32) (id (constantI S_ 32 3#32))
def zeros : IVec S256x4096 32 := broadcastInDim S256x4096 ![] bcast_S_S256x4096 (constantI S_ 32 0#32)
def rem3 : IVec S256x4096 32 := Host.remsi (addi rowB colB) (broadcastInDim S256x4096 ![] bcast_S_S256x4096 three)
def mod3 : IVec S256x4096 32 :=
  select (andi (cmpi .ne (cmpi .slt rem3 zeros) (broadcastInDim S256x4096 ![] bcast_S_S256x4096 (cmpi .slt three (constantI S_ 32 0#32)))) (cmpi .ne rem3 zeros))
    (addi rem3 (broadcastInDim S256x4096 ![] bcast_S_S256x4096 three)) rem3

/-- The reference's mask. -/
def keepM : IVec S256x4096 1 :=
  ori (ori (cmpi .eq rowB colB) (broadcastInDim S256x4096 ![0, 1] bcast_S1x4096_S256x4096_0_1 (cmpi .eq colR (broadcastInDim S1x4096 ![] bcast_S_S1x4096 (constantI S_ 32 0#32)))))
    (cmpi .eq mod3 zeros)

/-- The rows of the mask that keep anything. -/
def keepR : IVec S256 1 := Host.reduce IntOp.ori keepM (constantI S_ 1 0#1) reducesTo_S256x4096_S256_d1 h_S_

variable {F : FTy → Type} [FloatOps F]
variable (x : FVec F S1x256x1024 .f32) (wq : FVec F S1024x8192 .f32) (k v : FVec F S1x4096x64x128 .f32) (wo : FVec F S8192x1024 .f32)

/-- The queries, head by head. -/
def qh : FVec F S1x256x64x128 .f32 :=
  shapeCast _ (Host.dotGeneral dot_S1x256x1024_S1024x8192_S1x256x8192_2_0_01_1_n_n none x wq) shapeCasts_S1x256x8192_S1x256x64x128

/-- The scores, masked. -/
def scores : FVec F S1x64x256x4096 .f32 :=
  select (broadcastInDim S1x64x256x4096 ![0, 1, 2, 3] bcast_S1x1x256x4096_S1x64x256x4096_0_1_2_3 (broadcastInDim S1x1x256x4096 ![2, 3] bcast_S256x4096_S1x1x256x4096_2_3 keepM))
    (mulf (Host.dotGeneral dot_S1x256x64x128_S1x4096x64x128_S1x64x256x4096_3_3_1_1_02_02 none (qh x wq) k)
      (broadcastInDim S1x64x256x4096 ![] bcast_S_S1x64x256x4096 (constant S_ .f32 0x3DB504F3#32)))
    (broadcastInDim S1x64x256x4096 ![] bcast_S_S1x64x256x4096 (id (constant S_ .f32 0xCE6E6B28#32)))

/-- The greatest score of each row. -/
def rowMax : FVec F S1x64x256 .f32 :=
  Host.reduce FloatOps.maximumf (scores x wq k) (constant S_ .f32 0xFF800000#32) reducesTo_S1x64x256x4096_S1x64x256_d3 h_S_

/-- The exponentials of the scores, each less its row's greatest. -/
def expS : FVec F S1x64x256x4096 .f32 :=
  Host.exp (subf (scores x wq k) (broadcastInDim S1x64x256x4096 ![0, 1, 2, 3] bcast_S1x64x256x1_S1x64x256x4096_0_1_2_3
    (broadcastInDim S1x64x256x1 ![0, 1, 2] bcast_S1x64x256_S1x64x256x1_0_1_2 (rowMax x wq k))))

/-- The rows' sums of them. -/
def rowSum : FVec F S1x64x256 .f32 :=
  Host.reduceAdd (expS x wq k) (constant S_ .f32 0x00000000#32) reducesTo_S1x64x256x4096_S1x64x256_d3 h_S_

/-- The weights of the softmax. -/
def probs : FVec F S1x64x256x4096 .f32 :=
  select (broadcastInDim S1x64x256x4096 ![0, 1, 2, 3] bcast_S1x1x256x1_S1x64x256x4096_0_1_2_3 (broadcastInDim S1x1x256x1 ![2] bcast_S256_S1x1x256x1_2 keepR))
    (Host.divf (expS x wq k) (broadcastInDim S1x64x256x4096 ![0, 1, 2, 3] bcast_S1x64x256x1_S1x64x256x4096_0_1_2_3
      (select (broadcastInDim S1x64x256x1 ![0, 1, 2, 3] bcast_S1x1x256x1_S1x64x256x1_0_1_2_3 (broadcastInDim S1x1x256x1 ![2] bcast_S256_S1x1x256x1_2 keepR))
        (broadcastInDim S1x64x256x1 ![0, 1, 2] bcast_S1x64x256_S1x64x256x1_0_1_2 (rowSum x wq k))
        (broadcastInDim S1x64x256x1 ![] bcast_S_S1x64x256x1 (id (constant S_ .f32 0x3F800000#32))))))
    (broadcastInDim S1x64x256x4096 ![] bcast_S_S1x64x256x4096 (id (constant S_ .f32 0x00000000#32)))

/-- The heads' contexts, side by side. -/
def ctx : FVec F S1x256x8192 .f32 :=
  shapeCast _ (transpose S1x256x64x128 [0, 3, 1, 2] (Host.dotGeneral dot_S1x4096x64x128_S1x64x256x4096_S1x64x128x256_1_3_3_2_02_01 none v (probs x wq k))
    transposes_S1x64x128x256_S1x256x64x128_0_3_1_2) shapeCasts_S1x256x64x128_S1x256x8192

/-- The reference's result. -/
def res : FVec F S1x256x1024 .f32 := Host.dotGeneral dot_S1x256x8192_S8192x1024_S1x256x1024_2_0_01_1_n_n none (ctx x wq k v) wo

/-- The generated result is that one. -/
theorem res_out0_eq (m : (ℓ : Loc nD τ sig) → Buf (Elt F) ℓ) (c : Dev nD) :
    Cert.ReferenceIdeal.Value.res_out0 m c
      = res (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) := by
  unfold Cert.ReferenceIdeal.Value.res_out0 Cert.ReferenceIdeal.Value.res_main_v44
  rfl

section AtIdeal

variable (x : FVec Ideal S1x256x1024 .f32) (wq : FVec Ideal S1024x8192 .f32) (k v : FVec Ideal S1x4096x64x128 .f32) (wo : FVec Ideal S8192x1024 .f32)

/-- The column of the query weights (or row of the output weights) of a head's entry. -/
abbrev hcol (g : Fin 64) (d : Fin 128) : Fin 8192 := ⟨g.val * 128 + d.val, by omega⟩

/-- A query entry. -/
theorem qh_apply (r : Fin 256) (g : Fin 64) (d : Fin 128) :
    qh x wq (ix4 0 r g d) = ∑ t : Fin 1024, x (ix3 0 r t) * wq (ix2 t (hcol g d)) := by
  pointwise [qh]

/-- A score: the mask chooses between the scaled product and the filler. -/
theorem scores_apply (g : Fin 64) (r : Fin 256) (j : Fin 4096) :
    scores x wq k (ix4 0 g r j) = Scalar.select (keepM (ix2 r j)) ((∑ e : Fin 128, qh x wq (ix4 0 r g e) * k (ix4 0 j g e)) * Ideal.ofBits .f32 0x3DB504F3#32)
      (Ideal.ofBits .f32 0xCE6E6B28#32) := by
  pointwise [scores]
  rfl

/-- An exponential. -/
theorem expS_apply (g : Fin 64) (r : Fin 256) (j : Fin 4096) :
    expS x wq k (ix4 0 g r j) = Ideal.exp (scores x wq k (ix4 0 g r j) - rowMax x wq k (ix3 0 g r)) := by
  pointwise [expS]

/-- A row's sum. -/
theorem rowSum_apply (g : Fin 64) (r : Fin 256) :
    rowSum x wq k (ix3 0 g r) = ∑ j : Fin 4096, expS x wq k (ix4 0 g r j) := by
  pointwise [rowSum]

/-- A weight, in a row that keeps anything. -/
theorem probs_apply (g : Fin 64) (r : Fin 256) (j : Fin 4096) (hr : keepR (ix1 r) = 1#1) :
    probs x wq k (ix4 0 g r j) = Ideal.div (expS x wq k (ix4 0 g r j)) (rowSum x wq k (ix3 0 g r)) := by
  pointwise [probs]
  rw [hr]
  rfl

/-- An entry of a head's context. -/
theorem ctx_apply (r : Fin 256) (g : Fin 64) (d : Fin 128) :
    ctx x wq k v (ix3 0 r (hcol g d)) = ∑ j : Fin 4096, v (ix4 0 j g d) * probs x wq k (ix4 0 g r j) := by
  pointwise [ctx]
  have h1 : (g.val * 128 + d.val) / 128 = g.val := by omega
  have h2 : (g.val * 128 + d.val) % 128 = d.val := by omega
  simp only [h1, h2]

/-- An entry of the result. -/
theorem res_apply (r : Fin 256) (n : Fin 1024) :
    res x wq k v wo (ix3 0 r n) = ∑ u : Fin 8192, ctx x wq k v (ix3 0 r u) * wo (ix2 u n) := by
  pointwise [res]

end AtIdeal

end Cert.Ref
-- ==== Proof.Mask.lean ====
/-
# The mask

The kernel and the reference compute the same mask, by different words: both round a position down to its block of 64,
and keep a pair when the blocks are equal, when the key's block is the first, or when the sum of the two blocks is
divisible by three.
-/
module

public import proofs.«01_k».proof.Proof.KernelHead
public import proofs.«01_k».proof.Proof.RefTerm

@[expose] public section

noncomputable section

namespace Cert.Attn

open Cert.KernelIdeal Cert.KernelIdeal.Gen
open Idealize.ShloMosaic Idealize.ShloMosaic.TcCoe

/-- A pair of blocks that the mask keeps, as a bit. -/
def keep (a b : ℕ) : BitVec 1 := BitVec.ofBool (decide (a = b ∨ b = 0 ∨ (a + b) % 3 = 0))

/-- The kernel's block of a query row. -/
theorem kRow (r : Fin 256) (j : Fin 4096) : k0_pay2 (ix2 r j) = BitVec.ofNat 32 (r.val / 64) := by
  pointwise [k0_pay2]
  clear j
  revert r
  decide +kernel

/-- The kernel's blocks of the key positions. -/
def colK : IVec S256x4096 32 :=
  select (andi (cmpi .ne k0_pay4 (broadcast S256x4096 (Scalar.subi (Scalar.extui (Scalar.cmpi .sgt 64#32 0#32)) (Scalar.extui (Scalar.cmpi .slt 64#32 0#32)))))
      (cmpi .ne (remsi (iota .tc S256x4096 32 [1] iota_S256x4096_d1_w32) (broadcast S256x4096 64#32)) (broadcast S256x4096 0#32)))
    (subi k0_pay3 (broadcast S256x4096 1#32)) k0_pay3

theorem kCol (r : Fin 256) (j : Fin 4096) : colK (ix2 r j) = BitVec.ofNat 32 (j.val / 64) := by
  pointwise [colK, k0_pay3, k0_pay4]
  clear r
  revert j
  decide +kernel

/-- The kernel's way from the two blocks to the mask. -/
def combK (a b : IVec S256x4096 32) : IVec S256x4096 1 :=
  have three : BitVec 32 := Scalar.select (Scalar.cmpi .eq 3#32 0#32) 1#32 3#32
  have rem : IVec S256x4096 32 := remsi (addi a b) (broadcast S256x4096 three)
  ori (ori (cmpi .eq a b) (cmpi .eq b (broadcast S256x4096 0#32)))
    (cmpi .eq (select (andi (xori (cmpi .slt rem (broadcast S256x4096 0#32))
        (broadcastTo S256x4096 (broadcast S256x4096 (Scalar.cmpi .slt three 0#32)) broadcasts_S256x4096_S256x4096)) (cmpi .ne rem (broadcast S256x4096 0#32)))
      (addi rem (broadcast S256x4096 three)) rem) (broadcast S256x4096 0#32))

theorem mask_comb : mask = combK k0_pay2 colK := rfl

/-- The kernel's mask. -/
theorem mask_apply (r : Fin 256) (j : Fin 4096) : mask (ix2 r j) = keep (r.val / 64) (j.val / 64) := by
  rw [mask_comb]
  pointwise [combK]
  rw [kRow, kCol]
  obtain ⟨a, ha⟩ : ∃ a : Fin 4, a.val = r.val / 64 := ⟨⟨r.val / 64, by omega⟩, rfl⟩
  obtain ⟨b, hb⟩ : ∃ b : Fin 64, b.val = j.val / 64 := ⟨⟨j.val / 64, by omega⟩, rfl⟩
  rw [← ha, ← hb]
  clear ha hb r j
  revert a b
  decide +kernel

/-- The reference's blocks. -/
theorem rRow (r : Fin 256) : Cert.Ref.rowIx (ix1 r) = BitVec.ofNat 32 (r.val / 64) := by
  pointwise [Cert.Ref.rowIx, Cert.Ref.w64]
  revert r
  decide +kernel
theorem rCol (j : Fin 4096) : Cert.Ref.colIx (ix1 j) = BitVec.ofNat 32 (j.val / 64) := by
  pointwise [Cert.Ref.colIx, Cert.Ref.w64]
  revert j
  decide +kernel

/-- The reference's mask. -/
theorem keepM_apply (r : Fin 256) (j : Fin 4096) : Cert.Ref.keepM (ix2 r j) = keep (r.val / 64) (j.val / 64) := by
  pointwise [Cert.Ref.keepM, Cert.Ref.mod3, Cert.Ref.rem3, Cert.Ref.zeros, Cert.Ref.three, Cert.Ref.colB, Cert.Ref.colR, Cert.Ref.rowB]
  rw [rRow, rCol]
  obtain ⟨a, ha⟩ : ∃ a : Fin 4, a.val = r.val / 64 := ⟨⟨r.val / 64, by omega⟩, rfl⟩
  obtain ⟨b, hb⟩ : ∃ b : Fin 64, b.val = j.val / 64 := ⟨⟨j.val / 64, by omega⟩, rfl⟩
  rw [← ha, ← hb]
  clear ha hb r j
  revert a b
  decide +kernel

/-- Every row keeps the first key. -/
theorem keepR_apply (r : Fin 256) : Cert.Ref.keepR (ix1 r) = 1#1 := by
  pointwise [Cert.Ref.keepR]
  rw [← Finset.insert_erase (Finset.mem_univ (0 : Fin 4096)), Finset.fold_insert (Finset.notMem_erase _ _), keepM_apply]
  have h0 : keep (r.val / 64) ((0 : Fin 4096).val / 64) = 1#1 := by simp [keep]
  rw [h0]
  generalize Finset.fold IntOp.ori _ _ _ = b
  revert b
  decide

end Cert.Attn
-- ==== Proof.KernelLoads.lean ====
/-
# The kernel's loads, entry by entry

Which entry of an argument each load of the body reads: the query weights' columns and the output weights' rows of a
device, and the keys and values of a head.
-/
module

public import proofs.«01_k».proof.Proof.KernelHead

@[expose] public section

noncomputable section

namespace Cert.Attn

open Cert.KernelIdeal Cert.KernelIdeal.Gen
open Idealize.ShloMosaic Idealize.ShloMosaic.TcCoe

variable {F : FTy → Type} [FloatOps F]

/-- Where a device's columns and rows begin. -/
theorem off1_eq (c : Dev nD) : k0_off1 c = ![0, c.val * 1024] := by revert c; decide +kernel
theorem off2_eq (c : Dev nD) : k0_off2 c = ![c.val * 1024, 0] := by revert c; decide +kernel

/-- The weights' position of entry `u` of device `c`. -/
abbrev dcol (c : Fin 8) (u : Fin 1024) : Fin 8192 := ⟨c.val * 1024 + u.val, by omega⟩
/-- The device's position of entry `d` of its head `h`. -/
abbrev lcol (h : Fin 8) (d : Fin 128) : Fin 1024 := ⟨128 * h.val + d.val, by omega⟩

theorem wqT_apply (c : Dev nD) (f : Con F main_arg1) (t u : Fin 1024) : wqT c f (ix2 t u) = f (ix2 t (dcol c u)) := by
  refine congrArg f (funext fun a => Fin.ext ?_)
  refine Eq.trans (congrArg (fun z => z + 1 * _) (congrFun (off1_eq c) a)) ?_
  fin_cases a <;> simp [ix2]

theorem woT_apply (c : Dev nD) (f : Con F main_arg4) (u n : Fin 1024) : woT c f (ix2 u n) = f (ix2 (dcol c u) n) := by
  refine congrArg f (funext fun a => Fin.ext ?_)
  refine Eq.trans (congrArg (fun z => z + 1 * _) (congrFun (off2_eq c) a)) ?_
  fin_cases a <;> simp [ix2]

theorem ldO_apply (I : Inp F) (c : Dev nD) (h : Fin 8) (d : Fin 128) (n : Fin 1024) :
    ldO I c h (ix2 d n) = I.wo (ix2 (dcol c (lcol h d)) n) := by
  refine Eq.trans ?_ (woT_apply c I.wo (lcol h d) n)
  refine congrArg (woT c I.wo) (funext fun a => Fin.ext ?_)
  show (![128 * h.val, 0] : Fin 2 → ℕ) a + 1 * _ = _
  fin_cases a <;> simp [ix2]

theorem ldH_apply (f : Con F main_arg2) (h : Fin 8) (j : Fin 4096) (d : Fin 128) : ldH f h (ix3 0 j d) = f (ix4 0 j h d) := by
  have e : ldH f h (ix3 0 j d) = kvT f (ix3 h j d) := by
    refine congrArg (kvT f) (funext fun a => Fin.ext ?_)
    show (![h.val, 0, 0] : Fin 3 → ℕ) a + 1 * _ = _
    fin_cases a <;> simp [ix3]
  rw [e]
  rfl

/-- The arguments of a device, with the keys and values of its own heads. -/
abbrev mkI (x : FVec F S1x256x1024 .f32) (wq : FVec F S1024x8192 .f32) (k v : FVec F S1x4096x8x128 .f32) (wo : FVec F S8192x1024 .f32) : Inp F := ⟨x, wq, k, v, wo⟩

/-- A scaled query entry of a device. -/
theorem qs_apply (x : FVec Ideal S1x256x1024 .f32) (wq : FVec Ideal S1024x8192 .f32) (k v : FVec Ideal S1x4096x8x128 .f32) (wo : FVec Ideal S8192x1024 .f32)
    (c : Dev nD) (r : Fin 256) (u : Fin 1024) :
    qs (mkI x wq k v wo) c (ix2 r u) = (∑ t : Fin 1024, x (ix3 0 r t) * wq (ix2 t (dcol c u))) * Ideal.ofBits .f32 0x3DB504F3#32 := by
  unfold qs xq
  rw [ldX_eq, ldQ_eq]
  refine (pay7_apply _ _ r u).trans (congrArg (· * _) (Finset.sum_congr rfl fun t _ => congrArg (x (ix3 0 r t) * ·) ?_))
  exact wqT_apply (F := Ideal) c wq t u

end Cert.Attn
-- ==== Proof.Exchange.lean ====
/-
# The exchange adds the devices' partial sums

At the exact values, the array gathered at the end holds in every entry the sum of all eight devices' partial sums.
-/
module

public import proofs.«01_k».proof.Proof.Values
public import Idealize.ShloMosaic.Lib.Pointwise

@[expose] public section

noncomputable section

namespace Cert.Attn

open Cert.KernelIdeal Cert.KernelIdeal.Gen
open Idealize.ShloMosaic Idealize.ShloMosaic.TcCoe

/-- A sum over all devices: a device's own term and its seven peers'. -/
theorem sum_peers (c : Dev nD) (f : Dev nD → EReal) : ∑ c', f c' = f c + ∑ j : Fin 7, f (peer c j) := by
  have hb : Function.Bijective (fun o : Option (Fin 7) => o.elim c (peer c)) := by revert c; decide +kernel
  rw [← hb.sum_comp f, Fintype.sum_option]
  rfl

variable (W : Dev nD → FVec Ideal S256x1024 .bf16)

/-- The row of the whole array at row `p` of the block of a device. -/
abbrev prow (c : Dev nD) (p : Fin 32) : Fin 256 := ⟨32 * (vb c).val + p.val, by have := (vb c).isLt; omega⟩

/-- A kept row, and a received one. -/
theorem ldW_apply (c : Dev nD) (p : Fin 32) (n : Fin 1024) : ldW (F := Ideal) W c (ix2 p n) = W c (ix2 (prow c p) n) := by
  refine congrArg (W c) (funext fun a => Fin.ext ?_)
  refine Eq.trans (congrArg (fun z => z + 1 * _) (congrFun (off4_eq c) a)) ?_
  fin_cases a <;> simp [ix2]
theorem ldS_apply (c : Dev nD) (j : Fin 7) (p : Fin 32) (n : Fin 1024) : ldS (F := Ideal) W c j (ix3 0 p n) = W (peer c j) (ix2 (prow c p) n) := by
  have e : ldS (F := Ideal) W c j (ix3 0 p n) = slotsOf (F := Ideal) W c (ix3 j p n) := by
    refine congrArg (slotsOf (F := Ideal) W c) (funext fun a => Fin.ext ?_)
    show (![j.val, 0, 0] : Fin 3 → ℕ) a + 1 * _ = _
    fin_cases a <;> simp [ix3]
  rw [e]
  rfl

/-- A finished row: the sum over the devices. -/
theorem acc_apply (c : Dev nD) (p : Fin 32) (n : Fin 1024) : acc (F := Ideal) W c (ix2 p n) = ∑ c' : Dev nD, W c' (ix2 (prow c p) n) := by
  rw [sum_peers c, Fin.sum_univ_seven]
  pointwise [acc, accD, accC, accB, accA, k0_pay35, k0_pay34, k0_pay33, k0_pay32, k0_pay31]
  simp only [ldW_apply, ldS_apply, add_assoc]

/-- The gathered array. -/
theorem gath_apply (r : Fin 256) (n : Fin 1024) : gath (F := Ideal) W (ix2 r n) = ∑ c' : Dev nD, W c' (ix2 r n) := by
  have e : gath (F := Ideal) W (ix2 r n) = acc (F := Ideal) W (vd ⟨r.val / 32, by omega⟩) (ix2 ⟨r.val % 32, by omega⟩ n) := rfl
  rw [e, acc_apply]
  have hr : prow (vd ⟨r.val / 32, by omega⟩) ⟨r.val % 32, by omega⟩ = r := Fin.ext (by simp only [prow, vb_vd]; omega)
  rw [hr]

end Cert.Attn
-- ==== Proof.Value.lean ====
/-
# The kernel's value is the reference's

The sum of the devices' partial sums, entry by entry, is the reference's result, for real inputs, query weights and
keys: the scale moves out of the scores, the quotient of the two sums is the softmax whatever is taken off the scores,
and the heads of the eight devices are the reference's sixty-four.
-/
module

public import proofs.«01_k».proof.Proof.Softmax
public import proofs.«01_k».proof.Proof.Mask
public import proofs.«01_k».proof.Proof.KernelLoads
public import proofs.«01_k».proof.Proof.Exchange

@[expose] public section

noncomputable section

namespace Cert.Attn

open Cert.KernelIdeal Cert.KernelIdeal.Gen
open Idealize.ShloMosaic Idealize.ShloMosaic.TcCoe
open Cert.Ref (hcol)

/-- A sum over the 8192 columns, device by device, head by head. -/
theorem sum_cols (f : Fin 8192 → EReal) : ∑ u, f u = ∑ c : Fin 8, ∑ h : Fin 8, ∑ d : Fin 128, f (dcol c (lcol h d)) := by
  have e1 : ∑ u, f u = ∑ c : Fin 8, ∑ w : Fin 1024, f (dcol c w) := by
    rw [← Equiv.sum_comp (finProdFinEquiv : Fin 8 × Fin 1024 ≃ Fin (8 * 1024)) f, Fintype.sum_prod_type]
    exact Finset.sum_congr rfl fun c _ => Finset.sum_congr rfl fun w _ => congrArg f (Fin.ext (by simp [finProdFinEquiv]; omega))
  rw [e1]
  refine Finset.sum_congr rfl fun c _ => ?_
  rw [← Equiv.sum_comp (finProdFinEquiv : Fin 8 × Fin 128 ≃ Fin (8 * 128)) (fun w : Fin 1024 => f (dcol c w)), Fintype.sum_prod_type]
  exact Finset.sum_congr rfl fun h _ => Finset.sum_congr rfl fun d _ => congrArg (fun w => f (dcol c w)) (Fin.ext (by simp [finProdFinEquiv]; omega))

section Part

variable (x : FVec Ideal S1x256x1024 .f32) (wq : FVec Ideal S1024x8192 .f32) (k v : FVec Ideal S1x4096x8x128 .f32) (wo : FVec Ideal S8192x1024 .f32)
variable (c : Dev nD)

/-- A query entry of a device's head. -/
def qE (h : Fin 8) (r : Fin 256) (e : Fin 128) : EReal := ∑ t : Fin 1024, x (ix3 0 r t) * wq (ix2 t (dcol c (lcol h e)))

/-- A masked score of a device's head. -/
def kS (h : Fin 8) (r : Fin 256) (j : Fin 4096) : EReal :=
  Scalar.select (keep (r.val / 64) (j.val / 64)) (∑ e : Fin 128, qE x wq c h r e * Ideal.ofBits .f32 0x3DB504F3#32 * k (ix4 0 j h e))
    (Ideal.ofBits .f32 0xCE6E6B28#32)

/-- What a device's head adds to its partial sums. -/
def kT (h : Fin 8) (r : Fin 256) (n : Fin 1024) : EReal :=
  ∑ d : Fin 128, Ideal.div (∑ j : Fin 4096, Ideal.exp (kS x wq k c h r j) * v (ix4 0 j h d)) (∑ j : Fin 4096, Ideal.exp (kS x wq k c h r j))
    * wo (ix2 (dcol c (lcol h d)) n)

/-- One head of the kernel. -/
theorem head_apply (h : Fin 8) (q : FVec Ideal S256x128 .f32) (r : Fin 256) (n : Fin 1024)
    (hq : ∀ e : Fin 128, q (ix2 r e) = qs (mkI x wq k v wo) c (ix2 r (lcol h e))) :
    hout mask q (ldH (F := Ideal) k h) (ldH (F := Ideal) v h) (ldO (mkI x wq k v wo) c h) (ix2 r n) = kT x wq k v wo c h r n := by
  have hs : ∀ j, hscore mask q (ldH (F := Ideal) k h) r j = kS x wq k c h r j := fun j => by
    unfold hscore kS
    rw [mask_apply]
    congr 1
    refine Finset.sum_congr rfl fun e _ => ?_
    rw [hq e, qs_apply, ldH_apply]
    rfl
  rw [hout_apply]
  unfold kT
  simp only [hs]
  refine Finset.sum_congr rfl fun d _ => ?_
  rw [ldO_apply]
  simp only [ldH_apply]

/-- A device's partial sum at an entry. -/
def partE (r : Fin 256) (n : Fin 1024) : EReal := part (mkI x wq k v wo) c (ix2 r n)

/-- A device's partial sums, head by head. -/
theorem part_apply (r : Fin 256) (n : Fin 1024) : partE x wq k v wo c r n = ∑ h : Fin 8, kT x wq k v wo c h r n := by
  have col : ∀ (h : Fin 8) (u : ℕ) (e : Fin 128) (hu : u < 1024), u = (lcol h e).val →
      qs (mkI x wq k v wo) c (ix2 r ⟨u, hu⟩) = qs (mkI x wq k v wo) c (ix2 r (lcol h e)) := fun h u e hu e' => by subst e'; rfl
  unfold partE
  rw [part_eq, Fin.sum_univ_eight]
  pointwise [o6_eq, o5_eq, o4_eq, o3_eq, o2_eq, o1_eq, o0_eq]
  rw [head_apply x wq k v wo c 0 _ r n (fun e => by pointwise; exact col 0 _ e _ (by simp [lcol])), head_apply x wq k v wo c 1 _ r n (fun e => by pointwise; exact col 1 _ e _ (by simp [lcol])),
    head_apply x wq k v wo c 2 _ r n (fun e => by pointwise; exact col 2 _ e _ (by simp [lcol])), head_apply x wq k v wo c 3 _ r n (fun e => by pointwise; exact col 3 _ e _ (by simp [lcol])),
    head_apply x wq k v wo c 4 _ r n (fun e => by pointwise; exact col 4 _ e _ (by simp [lcol])), head_apply x wq k v wo c 5 _ r n (fun e => by pointwise; exact col 5 _ e _ (by simp [lcol])),
    head_apply x wq k v wo c 6 _ r n (fun e => by pointwise; exact col 6 _ e _ (by simp [lcol])), head_apply x wq k v wo c 7 _ r n (fun e => by pointwise; exact col 7 _ e _ (by simp [lcol]))]

end Part

section Whole

variable (x : FVec Ideal S1x256x1024 .f32) (wq : FVec Ideal S1024x8192 .f32) (wo : FVec Ideal S8192x1024 .f32)
variable (k v : FVec Ideal Cert.ReferenceIdeal.S1x4096x64x128 .f32)
variable (kc vc : Fin 8 → FVec Ideal S1x4096x8x128 .f32)

/-- The number of a device's head among all. -/
abbrev hd (c h : Fin 8) : Fin 64 := ⟨8 * c.val + h.val, by omega⟩

theorem hcol_hd (c h : Fin 8) (d : Fin 128) : hcol (hd c h) d = dcol c (lcol h d) := Fin.ext (by simp only [hcol, hd, dcol, lcol]; omega)

variable (hx : ∀ i, IsReal (x i)) (hw : ∀ i, IsReal (wq i)) (hk : ∀ i, IsReal (k i))
variable (hkc : ∀ c j h e, kc c (ix4 0 j h e) = k (ix4 0 j (hd c h) e)) (hvc : ∀ c j h e, vc c (ix4 0 j h e) = v (ix4 0 j (hd c h) e))

include hx hw in
theorem isReal_q (c h r e) : IsReal (qE x wq c h r e) := IsReal.sum _ fun t => (hx _).mul (hw _)

include hx hw hk hkc in
/-- The scores are the reference's. -/
theorem kS_eq (c h : Fin 8) (r : Fin 256) (j : Fin 4096) : kS x wq (kc c) c h r j = Cert.Ref.scores x wq k (ix4 0 (hd c h) r j) := by
  rw [Cert.Ref.scores_apply, keepM_apply]
  unfold kS
  congr 1
  simp only [hkc]
  rw [scale_out (fun e => isReal_q x wq hx hw c h r e) (fun e => hk _) isReal_scale]
  refine congrArg (· * _) (Finset.sum_congr rfl fun e _ => ?_)
  rw [Cert.Ref.qh_apply, hcol_hd]
  rfl

include hx hw hk in
/-- The reference's scores are real. -/
theorem isReal_scores (g : Fin 64) (r : Fin 256) (j : Fin 4096) : IsReal (Cert.Ref.scores x wq k (ix4 0 g r j)) := by
  rw [Cert.Ref.scores_apply]
  have h1 : IsReal ((∑ e : Fin 128, Cert.Ref.qh x wq (ix4 0 r g e) * k (ix4 0 j g e)) * Ideal.ofBits .f32 0x3DB504F3#32) :=
    (IsReal.sum _ fun e => by rw [Cert.Ref.qh_apply]; exact (IsReal.sum _ fun t => (hx _).mul (hw _)).mul (hk _)).mul isReal_scale
  unfold Scalar.select
  split
  exacts [h1, isReal_fill]

include hx hw hk in
/-- So is the greatest of a row. -/
theorem isReal_rowMax (g : Fin 64) (r : Fin 256) : IsReal (Cert.Ref.rowMax x wq k (ix3 0 g r)) := by
  pointwise [Cert.Ref.rowMax]
  rw [ofBits_negInf]
  exact isReal_fold_max (by decide) fun j => isReal_scores x wq k hx hw hk g r j

include hx hw hk hkc hvc in
/-- The devices' partial sums add up to the reference's result. -/
theorem value_eq (r : Fin 256) (n : Fin 1024) :
    ∑ c : Dev nD, partE x wq (kc c) (vc c) wo c r n = Cert.Ref.res x wq k v wo (ix3 0 r n) := by
  rw [Cert.Ref.res_apply, sum_cols]
  refine Finset.sum_congr rfl fun c _ => ?_
  rw [part_apply]
  refine Finset.sum_congr rfl fun h _ => ?_
  unfold kT
  refine Finset.sum_congr rfl fun d _ => congrArg (· * _) ?_
  rw [← hcol_hd, Cert.Ref.ctx_apply]
  simp only [kS_eq x wq k kc hx hw hk hkc, hvc]
  rw [softmax_row (by decide) _ (fun j => isReal_scores x wq k hx hw hk (hd c h) r j) (isReal_rowMax x wq k hx hw hk (hd c h) r)]
  refine Finset.sum_congr rfl fun j _ => congrArg (_ * ·) ?_
  rw [Cert.Ref.probs_apply _ _ _ _ _ _ (keepR_apply r), Cert.Ref.rowSum_apply]
  simp only [Cert.Ref.expS_apply]

end Whole

end Cert.Attn
-- ==== Proof.Equal.lean ====
/-
# The kernel's result buffer

What the run leaves in each device's result: the reference's result of the whole arrays, when the device's arguments are
its blocks of them and the inputs, query weights and keys are real.
-/
module

public import proofs.«01_k».proof.Proof.Value
public import proofs.«01_k».proof.Proof.Launch

@[expose] public section

noncomputable section

namespace Cert.Attn

open Cert.KernelIdeal Cert.KernelIdeal.Gen
open Idealize.ShloMosaic Idealize.ShloMosaic.TcCoe

section Buffers

variable {F : FTy → Type} [FloatOps F]
variable (m : (ℓ : Loc nD τ sig) → Buf (Elt F) ℓ) (ρ : Dev nD → PrngReg)

/-- The staged input is the argument. -/
theorem inp_x (c : Dev nD) : (inp m c).x = m (loc c main_arg0) := by
  have hz : (fun a => (win0_0.index (0 : Fin 1)) a * main_arg0.ty.shape.size a) = fun _ => 0 := funext fun a => by fin_cases a <;> decide
  exact Memref.read_access_unit_zero (Elt F) main_arg0 hz (fun a => by fin_cases a <;> decide) _

/-- The result buffer holds what the last step leaves in its stage. -/
theorem finalA_o (c : Dev nD) : finalA m ρ c (1 : Fin 2) = outV (Wm m) := by
  have hz : (fun a => (win0_1.index (0 : Fin 1)) a * main_v1.ty.shape.size a) = fun _ => 0 := funext fun a => by fin_cases a <;> decide
  have hr := fun f => Memref.read_access_unit_zero (Elt F) main_v1 hz (fun a => by fin_cases a <;> decide) f
  have h : (win0_1.blk (0 : Fin 1)).view.read (Elt F) (finalA m ρ c (1 : Fin 2)) = outV (Wm m) := by
    unfold finalA
    rw [show cfg0.N = ((0 : Fin 1) : Fin cfg0.N).val + 1 from rfl, (dats m ρ 0 c).arrAt_succ (1 : Fin 2) (0 : Fin 1)]
    rw [show (cfg0.win (1 : Fin 2)).flush (0 : Fin 1) = true from by decide, if_pos rfl]
    exact View.read_write_univ _ _
  exact (hr _).symm.trans h

end Buffers

/-- The stage's contents at an entry: the sum of the devices' partial sums. -/
theorem outV_apply (W : Dev nD → FVec Ideal S256x1024 .bf16) (r : Fin 256) (n : Fin 1024) :
    outV (F := Ideal) W (ix3 0 r n) = ∑ c : Dev nD, W c (ix2 r n) := by
  rw [← gath_apply W r n]
  unfold outV
  rw [ldG_eq]
  pointwise [k0_pay1, k0_pay36]

variable (m : (ℓ : Loc nD τ sig) → Buf (Elt Ideal) ℓ) (ρ : Dev nD → PrngReg)
variable (x : FVec Ideal S1x256x1024 .f32) (wq : FVec Ideal S1024x8192 .f32) (wo : FVec Ideal S8192x1024 .f32)
variable (k v : FVec Ideal Cert.ReferenceIdeal.S1x4096x64x128 .f32)

/-- An entry of a device's block of the keys or values. -/
theorem block_entry (c : Fin 8) (f : FVec Ideal Cert.ReferenceIdeal.S1x4096x64x128 .f32) (j : Fin 4096) (h : Fin 8) (e : Fin 128) :
    Layout.block (⟨4, ![1, 4096, 8, 128]⟩ : Shape) ⟨4, ![1, 4096, 64, 128]⟩ 2 8 c f (by decide) (ix4 0 j h e) = f (ix4 0 j (hd c h) e) := by
  rw [Layout.block_apply]
  refine congrArg f (funext fun a => Fin.ext ?_)
  fin_cases a
  · rfl
  · rfl
  · show c.val * 8 + h.val = 8 * c.val + h.val
    omega
  · rfl

/-- Every device's result is the reference's. -/
theorem result_eq (hx : ∀ i, IsReal (x i)) (hw : ∀ i, IsReal (wq i)) (hk : ∀ i, IsReal (k i))
    (h0 : ∀ c : Dev nD, m (loc c main_arg0) = x) (h1 : ∀ c : Dev nD, m (loc c main_arg1) = wq)
    (h2 : ∀ c : Dev nD, m (loc c main_arg2) = Layout.block (⟨4, ![1, 4096, 8, 128]⟩ : Shape) ⟨4, ![1, 4096, 64, 128]⟩ 2 8 c k (by decide))
    (h3 : ∀ c : Dev nD, m (loc c main_arg3) = Layout.block (⟨4, ![1, 4096, 8, 128]⟩ : Shape) ⟨4, ![1, 4096, 64, 128]⟩ 2 8 c v (by decide))
    (h4 : ∀ c : Dev nD, m (loc c main_arg4) = wo) (c : Dev nD) :
    finalA m ρ c (1 : Fin 2) = Cert.Ref.res x wq k v wo := by
  have hI : ∀ c, inp m c = mkI x wq (Layout.block (⟨4, ![1, 4096, 8, 128]⟩ : Shape) ⟨4, ![1, 4096, 64, 128]⟩ 2 8 c k (by decide))
      (Layout.block (⟨4, ![1, 4096, 8, 128]⟩ : Shape) ⟨4, ![1, 4096, 64, 128]⟩ 2 8 c v (by decide)) wo := fun c => by
    have e : inp m c = ⟨(inp m c).x, m (loc c main_arg1), m (loc c main_arg2), m (loc c main_arg3), m (loc c main_arg4)⟩ := rfl
    rw [e, inp_x, h0, h1, h2, h3, h4]
  rw [finalA_o]
  funext i
  obtain ⟨r, n, rfl⟩ : ∃ (r : Fin 256) (n : Fin 1024), i = ix3 0 r n := ⟨i 1, i 2, by
    funext a
    fin_cases a
    · exact Subsingleton.elim (α := Fin 1) _ _
    · rfl
    · rfl⟩
  have hp : ∀ c : Dev nD, Wm m c (ix2 r n) = partE x wq (Layout.block (⟨4, ![1, 4096, 8, 128]⟩ : Shape) ⟨4, ![1, 4096, 64, 128]⟩ 2 8 c k (by decide))
      (Layout.block (⟨4, ![1, 4096, 8, 128]⟩ : Shape) ⟨4, ![1, 4096, 64, 128]⟩ 2 8 c v (by decide)) wo c r n := fun c => by
    unfold Wm partE
    rw [hI c]
  refine @Eq.trans EReal _ _ _ (outV_apply (Wm m) r n) (@Eq.trans EReal _ _ _ (Finset.sum_congr rfl fun c _ => hp c) ?_)
  exact value_eq x wq wo k v (fun c => Layout.block (⟨4, ![1, 4096, 8, 128]⟩ : Shape) ⟨4, ![1, 4096, 64, 128]⟩ 2 8 c k (by decide))
    (fun c => Layout.block (⟨4, ![1, 4096, 8, 128]⟩ : Shape) ⟨4, ![1, 4096, 64, 128]⟩ 2 8 c v (by decide)) hx hw hk
    (fun c j h e => block_entry c k j h e) (fun c j h e => block_entry c v j h e) r n

end Cert.Attn
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Equal
public import Idealize.ShloMosaic.Adequacy
public import Idealize.ShloMosaic.Init

@[expose] public section

noncomputable section

namespace Cert.Proof

open Idealize.ShloMosaic Idealize.SL.Sem

section Kept
open Cert.KernelIdeal
variable {F : FTy → Type} [FloatOps F]

/-- At any float values the kernel runs to its end, leaves its arguments and puts every counter back to zero. -/
theorem run_kept (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run (defs (F := F)) _ _).mono (fun _ h => ⟨fun c => ⟨((h.1 c).1 (0 : Fin 2)).trans (Cert.Attn.finalA_x m ρ c), (h.1 c).2⟩, h.2⟩)
    (Cert.Attn.run_main (F := F) m ρ)

end Kept

set_option maxRecDepth 40000 in
/-- The two printed kernels have the same body. -/
theorem defs₀_eq {F : FTy → Type} [FloatOps F] : Cert.Kernel.defs₀ (F := F) = Cert.KernelIdeal.defs₀ := by
  unfold Cert.Kernel.defs₀ Cert.KernelIdeal.defs₀
  refine congrArg Defs.onTc (funext fun l => funext fun a => ?_)
  fin_cases l
  obtain ⟨t, s⟩ := a
  dsimp only
  rfl

/-- Hence the same table of bodies and pipelines. -/
theorem defs_eq {F : FTy → Type} [FloatOps F] : Cert.Kernel.defs (F := F) = Cert.KernelIdeal.defs :=
  congrArg (Pipeline.defs Cert.KernelIdeal.pcfgs) defs₀_eq

/-- The kernel, bit for bit. Its text is the idealized program's, whose run was proved at any float values. -/
theorem frame_kernel : Cert.quiescent_Kernel := fun m ρ _ => by
  have h := run_kept (F := Bits) m ρ
  rw [← defs_eq] at h
  exact h

/-- The idealized kernel. -/
theorem frame_kernelIdeal : Cert.quiescent_KernelIdeal := fun m ρ _ => run_kept (F := Ideal) m ρ

/-- The reference runs and leaves its arguments; it declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The precondition's side conditions, over a device's arguments and over the whole arrays. -/
instance preFactsK : Cert.Pre_finite_qk_KernelIdeal.Facts where
  bcast_S_S1x256x1024 := by decide
  bcast_S_S1024x8192 := by decide
  bcast_S_S1x4096x8x128 := by decide
instance preFactsR : Cert.Pre_finite_qk_ReferenceIdeal.Facts where
  bcast_S_S1x256x1024 := by decide
  bcast_S_S1024x8192 := by decide
  bcast_S_S1x4096x64x128 := by decide

/-- Both frames hold in particular under the precondition. -/
theorem frame_kernelIdeal_pre : Cert.quiescent_KernelIdeal_pre_finite_qk_KernelIdeal := fun m ρ _ => frame_kernelIdeal m ρ trivial
theorem frame_reference_pre : Cert.quiescent_ReferenceIdeal_pre_finite_qk_ReferenceIdeal := fun m ρ _ => frame_reference m ρ trivial

/-- The comparison that the precondition makes of each element says that the element is real. -/
theorem real_of_olt {a : EReal} (h : FloatOps.cmpf (F := Ideal) (φ := .f32) .olt (FloatOps.hostAbsf (F := Ideal) (φ := .f32) a) (Ideal.ofBits .f32 0x7F800000#32) = 1#1) :
    Cert.Attn.IsReal a := by
  rw [Cert.Attn.ofBits_inf] at h
  refine Cert.Attn.IsReal.of_abs ?_
  by_contra hn
  have h' : BitVec.ofBool (decide (max a (-a) < ⊤)) = 1#1 := h
  rw [decide_eq_false hn] at h'
  exact absurd h' (by decide)

/-- What the precondition says of a device's inputs, query weights and keys. -/
theorem real_of_pre (m : (ℓ : Loc Cert.KernelIdeal.nD Cert.KernelIdeal.τ Cert.KernelIdeal.sig) → Buf (Elt Ideal) ℓ)
    (h : Cert.Pre_KernelIdeal_finite_qk_KernelIdeal m) (c : Dev Cert.KernelIdeal.nD) :
    (∀ i, Cert.Attn.IsReal (m ((c.tc : Thread Cert.KernelIdeal.nD Cert.KernelIdeal.τ).loc Cert.KernelIdeal.main_arg0) i))
    ∧ (∀ i, Cert.Attn.IsReal (m ((c.tc : Thread Cert.KernelIdeal.nD Cert.KernelIdeal.τ).loc Cert.KernelIdeal.main_arg1) i))
    ∧ ∀ i, Cert.Attn.IsReal (m ((c.tc : Thread Cert.KernelIdeal.nD Cert.KernelIdeal.τ).loc Cert.KernelIdeal.main_arg2) i) :=
  ⟨fun i => real_of_olt (congrFun (h c).1 i), fun i => real_of_olt (congrFun (h c).2.1 i), fun i => real_of_olt (congrFun (h c).2.2 i)⟩

/-- Every key lies in the block of the keys that one device holds. -/
theorem key_block (f : FVec Ideal Cert.ReferenceIdeal.S1x4096x64x128 .f32)
    (h : ∀ c : Fin 8, ∀ i, Cert.Attn.IsReal (Layout.block (⟨4, ![1, 4096, 8, 128]⟩ : Shape) ⟨4, ![1, 4096, 64, 128]⟩ 2 8 c f (by decide) i)) (i) :
    Cert.Attn.IsReal (f i) := by
  obtain ⟨j, g, e, rfl⟩ : ∃ (j : Fin 4096) (g : Fin 64) (e : Fin 128), i = ix4 0 j g e := ⟨i 1, i 2, i 3, by
    funext a
    fin_cases a
    · exact Subsingleton.elim (α := Fin 1) _ _
    · rfl
    · rfl
    · rfl⟩
  have hg : g = Cert.Attn.hd ⟨g.val / 8, by omega⟩ ⟨g.val % 8, by omega⟩ := Fin.ext (by simp only [Cert.Attn.hd]; omega)
  rw [hg]
  exact (congrArg Cert.Attn.IsReal (Cert.Attn.block_entry _ f j _ e)).mp (h _ _)

/-- The kernel computes what the reference computes, at the exact values, where the inputs, the query weights and the
    keys are finite. -/
theorem value : Cert.algebraic_KernelIdeal_ReferenceIdeal_pre_finite_qk_KernelIdeal := fun m g m' g' hpre hargs => by
  refine ⟨Cert.ReferenceIdeal.Value.res_out0 m' 0, ?_, ?_⟩
  · refine (θ_run (Cert.KernelIdeal.defs (F := Ideal)) _ _).mono (fun r h c => ⟨?_, ((h.1 c).1 (0 : Fin 2)).trans (Cert.Attn.finalA_x m g c), (h.1 c).2⟩)
      (Cert.Attn.run_main (F := Ideal) m g)
    refine ((h.1 c).1 (1 : Fin 2)).trans ?_
    rw [Cert.Ref.res_out0_eq]
    have hr := real_of_pre m hpre
    refine Cert.Attn.result_eq m g _ _ _ _ _ ?_ ?_ ?_ (fun c => (hargs c).1) (fun c => (hargs c).2.1) (fun c => (hargs c).2.2.1)
      (fun c => (hargs c).2.2.2.1) (fun c => (hargs c).2.2.2.2) c
    · exact fun i => (congrArg Cert.Attn.IsReal (congrFun (hargs 0).1 i)).mp ((hr 0).1 i)
    · exact fun i => (congrArg Cert.Attn.IsReal (congrFun (hargs 0).2.1 i)).mp ((hr 0).2.1 i)
    · exact key_block _ fun c i => (congrArg Cert.Attn.IsReal (congrFun (hargs c).2.2.1 i)).mp ((hr c).2.2 i)
  · exact (θ_run Cert.ReferenceIdeal.defs _ _).mono (fun r h => h 0) (Cert.ReferenceIdeal.Value.run (F := Ideal) m' g')

theorem claim : Cert.Claim :=
  ⟨Cert.Kernel.Gen.facts, Cert.KernelIdeal.Gen.facts, Cert.ReferenceIdeal.Gen.facts, preFactsK, preFactsR,
    frame_kernel, frame_kernelIdeal, frame_kernelIdeal_pre, frame_reference, frame_reference_pre, trivial, value⟩

end Cert.Proof

end
